-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S3x128x4096 : Shape := ⟨3, ![3, 128, 4096]⟩
abbrev S3 : Shape := ⟨1, ![3]⟩
abbrev S_ : Shape := ⟨0, ![]⟩
abbrev S1 : Shape := ⟨1, ![1]⟩
abbrev S1x128x4096 : Shape := ⟨3, ![1, 128, 4096]⟩
abbrev S128x64 : Shape := ⟨2, ![128, 64]⟩

abbrev nBuf : Space → Nat
  | .hbm => 3
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S4096x64, .f32⟩
  | .hbm, ⟨2, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4096x64, .f32⟩
  | .local _ .vmem, ⟨3, _⟩ => ⟨S128x4096, .bf16⟩
  | .local _ .vmem, ⟨4, _⟩ => ⟨S3x128x4096, .bf16⟩
  | .local _ .vmem, ⟨5, _⟩ => ⟨S3x128x4096, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_18 : BitVec 32 := 1#32
  let v22 : BitVec 32 := Scalar.muli v7 c1_i32_18
  let v23 : BitVec 32 := Scalar.addi c0_i32_19 v22
  v23.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_25 : BitVec 32 := 1#32
  let v30 : BitVec 32 := Scalar.muli v5 c1_i32_25
  let v31 : BitVec 32 := Scalar.addi c0_i32_26 v30
  v31.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v42 : BitVec 32 := Scalar.muli v2 c128_i32
  let v43 : Index := Scalar.indexCast v42
  let c0_31 : Index := 0#32
  ![v43.toNat, 0]
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_62 : BitVec 32 := 1#32
  let v65 : BitVec 32 := Scalar.muli v7 c1_i32_62
  let v66 : BitVec 32 := Scalar.addi c0_i32_63 v65
  v66.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_72 : BitVec 32 := 1#32
  let v75 : BitVec 32 := Scalar.muli v5 c1_i32_72
  let v76 : BitVec 32 := Scalar.addi c0_i32_73 v75
  v76.toNat
def k0_off2 (d0 : Dev nD) (c1_i32_81 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v87 : BitVec 32 := Scalar.subi v2 c1_i32_81
  let c32_i32_82 : BitVec 32 := 32#32
  let v88 : BitVec 32 := Scalar.addi v87 c32_i32_82
  let c32_i32_83 : BitVec 32 := 32#32
  let v89 : BitVec 32 := Scalar.remsi v88 c32_i32_83
  let c128_i32_85 : BitVec 32 := 128#32
  let v93 : BitVec 32 := Scalar.muli v89 c128_i32_85
  let v94 : Index := Scalar.indexCast v93
  let c0_86 : Index := 0#32
  ![v94.toNat, 0]
def k0_off3 (d0 : Dev nD) (c1_i32_90 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v98 : BitVec 32 := Scalar.addi v2 c1_i32_90
  let c32_i32_91 : BitVec 32 := 32#32
  let v99 : BitVec 32 := Scalar.remsi v98 c32_i32_91
  let c128_i32_93 : BitVec 32 := 128#32
  let v103 : BitVec 32 := Scalar.muli v99 c128_i32_93
  let v104 : Index := Scalar.indexCast v103
  let c0_94 : Index := 0#32
  ![v104.toNat, 0]
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_137 : BitVec 32 := 1#32
  let v134 : BitVec 32 := Scalar.muli v7 c1_i32_137
  let v135 : BitVec 32 := Scalar.addi c0_i32_138 v134
  v135.toNat
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_147 : BitVec 32 := 1#32
  let v144 : BitVec 32 := Scalar.muli v5 c1_i32_147
  let v145 : BitVec 32 := Scalar.addi c0_i32_148 v144
  v145.toNat
def k0_dev9 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_211 : BitVec 32 := 1#32
  let v203 : BitVec 32 := Scalar.muli v7 c1_i32_211
  let v204 : BitVec 32 := Scalar.addi c0_i32_212 v203
  v204.toNat
def k0_dev10 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_221 : BitVec 32 := 1#32
  let v213 : BitVec 32 := Scalar.muli v5 c1_i32_221
  let v214 : BitVec 32 := Scalar.addi c0_i32_222 v213
  v214.toNat
def k0_dev11 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_284 : BitVec 32 := 1#32
  let v272 : BitVec 32 := Scalar.muli v7 c1_i32_284
  let v273 : BitVec 32 := Scalar.addi c0_i32_285 v272
  v273.toNat
def k0_dev12 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_294 : BitVec 32 := 1#32
  let v282 : BitVec 32 := Scalar.muli v5 c1_i32_294
  let v283 : BitVec 32 := Scalar.addi c0_i32_295 v282
  v283.toNat
def k0_dev13 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_358 : BitVec 32 := 1#32
  let v341 : BitVec 32 := Scalar.muli v7 c1_i32_358
  let v342 : BitVec 32 := Scalar.addi c0_i32_359 v341
  v342.toNat
def k0_dev14 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_368 : BitVec 32 := 1#32
  let v351 : BitVec 32 := Scalar.muli v5 c1_i32_368
  let v352 : BitVec 32 := Scalar.addi c0_i32_369 v351
  v352.toNat
def k0_dev15 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_432 : BitVec 32 := 1#32
  let v410 : BitVec 32 := Scalar.muli v7 c1_i32_432
  let v411 : BitVec 32 := Scalar.addi c0_i32_433 v410
  v411.toNat
def k0_dev16 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_442 : BitVec 32 := 1#32
  let v420 : BitVec 32 := Scalar.muli v5 c1_i32_442
  let v421 : BitVec 32 := Scalar.addi c0_i32_443 v420
  v421.toNat
def k0_dev17 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_506 : BitVec 32 := 1#32
  let v479 : BitVec 32 := Scalar.muli v7 c1_i32_506
  let v480 : BitVec 32 := Scalar.addi c0_i32_507 v479
  v480.toNat
def k0_dev18 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_516 : BitVec 32 := 1#32
  let v489 : BitVec 32 := Scalar.muli v5 c1_i32_516
  let v490 : BitVec 32 := Scalar.addi c0_i32_517 v489
  v490.toNat
def k0_dev19 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_580 : BitVec 32 := 1#32
  let v548 : BitVec 32 := Scalar.muli v7 c1_i32_580
  let v549 : BitVec 32 := Scalar.addi c0_i32_581 v548
  v549.toNat
def k0_dev20 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_590 : BitVec 32 := 1#32
  let v558 : BitVec 32 := Scalar.muli v5 c1_i32_590
  let v559 : BitVec 32 := Scalar.addi c0_i32_591 v558
  v559.toNat
def k0_dev21 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_654 : BitVec 32 := 1#32
  let v617 : BitVec 32 := Scalar.muli v7 c1_i32_654
  let v618 : BitVec 32 := Scalar.addi c0_i32_655 v617
  v618.toNat
def k0_dev22 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_664 : BitVec 32 := 1#32
  let v627 : BitVec 32 := Scalar.muli v5 c1_i32_664
  let v628 : BitVec 32 := Scalar.addi c0_i32_665 v627
  v628.toNat
def k0_dev23 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_728 : BitVec 32 := 1#32
  let v686 : BitVec 32 := Scalar.muli v7 c1_i32_728
  let v687 : BitVec 32 := Scalar.addi c0_i32_729 v686
  v687.toNat
def k0_dev24 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_738 : BitVec 32 := 1#32
  let v696 : BitVec 32 := Scalar.muli v5 c1_i32_738
  let v697 : BitVec 32 := Scalar.addi c0_i32_739 v696
  v697.toNat
def k0_dev25 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_802 : BitVec 32 := 1#32
  let v755 : BitVec 32 := Scalar.muli v7 c1_i32_802
  let v756 : BitVec 32 := Scalar.addi c0_i32_803 v755
  v756.toNat
def k0_dev26 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_812 : BitVec 32 := 1#32
  let v765 : BitVec 32 := Scalar.muli v5 c1_i32_812
  let v766 : BitVec 32 := Scalar.addi c0_i32_813 v765
  v766.toNat
def k0_dev27 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_876 : BitVec 32 := 1#32
  let v824 : BitVec 32 := Scalar.muli v7 c1_i32_876
  let v825 : BitVec 32 := Scalar.addi c0_i32_877 v824
  v825.toNat
def k0_dev28 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_886 : BitVec 32 := 1#32
  let v834 : BitVec 32 := Scalar.muli v5 c1_i32_886
  let v835 : BitVec 32 := Scalar.addi c0_i32_887 v834
  v835.toNat
def k0_dev29 (d0 : Dev nD) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_950 : BitVec 32 := 1#32
  let v893 : BitVec 32 := Scalar.muli v7 c1_i32_950
  let v894 : BitVec 32 := Scalar.addi c0_i32_951 v893
  v894.toNat
def k0_dev30 (d0 : Dev nD) : Nat :=
  let c0_i32_961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_960 : BitVec 32 := 1#32
  let v903 : BitVec 32 := Scalar.muli v5 c1_i32_960
  let v904 : BitVec 32 := Scalar.addi c0_i32_961 v903
  v904.toNat
def k0_dev31 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1024 : BitVec 32 := 1#32
  let v962 : BitVec 32 := Scalar.muli v7 c1_i32_1024
  let v963 : BitVec 32 := Scalar.addi c0_i32_1025 v962
  v963.toNat
def k0_dev32 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1034 : BitVec 32 := 1#32
  let v972 : BitVec 32 := Scalar.muli v5 c1_i32_1034
  let v973 : BitVec 32 := Scalar.addi c0_i32_1035 v972
  v973.toNat
def k0_dev33 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1098 : BitVec 32 := 1#32
  let v1031 : BitVec 32 := Scalar.muli v7 c1_i32_1098
  let v1032 : BitVec 32 := Scalar.addi c0_i32_1099 v1031
  v1032.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Prog.lean ====
/-
# The kernel's body as a chain of small programs

The printed body runs sixteen iterations that differ only in the slot, the semaphores, the hop number and the
direction. Here each step (start a transfer, wait for one, multiply one block and store it) is one small program
over a direction `D` (`true` sends to the right neighbour, `false` to the left) and a hop number, and the printed
body is shown to be their chain.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.RingProof

open Cert.KernelIdeal Cert.KernelIdeal.Gen
open Idealize.ShloMosaic Idealize.ShloMosaic.TcCoe
open Idealize.SL.Sem

variable {F : FTy → Type} [FloatOps F]

/-! ## Buffers, slots and semaphores -/

abbrev xM : Memref sig .tc .vmem S128x4096 .f32 := Memref.whole cc0_stg0_0
abbrev wM : Memref sig .tc .vmem S4096x64 .f32 := Memref.whole cc0_stg1_0
abbrev oM : Memref sig .tc .vmem S4096x64 .f32 := Memref.whole cc0_stg2_0
abbrev sM : Memref sig .tc .vmem S128x4096 .bf16 := Memref.whole cc0_scratch0

/-- The three-slot landing buffer of a direction. -/
def rM : Bool → Memref sig .tc .vmem S3x128x4096 .bf16
  | true => Memref.whole cc0_scratch1
  | false => Memref.whole cc0_scratch2

theorem rM_whole : ∀ D : Bool, (rM D).IsWhole
  | true => Memref.isWhole_whole _
  | false => Memref.isWhole_whole _

/-- The slot hop `h` lands in. -/
def sl (h : ℕ) : Fin 3 := ⟨h % 3, Nat.mod_lt _ (by decide)⟩

theorem inbS (k : Fin 3) : ∀ a, (![k.val, 0, 0] : Fin 3 → ℕ) a + S1x128x4096.size a ≤ S3x128x4096.size a := by
  revert k; decide

abbrev rectS (k : Fin 3) : Rect S3x128x4096 := Rect.unit (s := S3x128x4096) ![k.val, 0, 0] S1x128x4096.size (inbS k)

theorem wordsS (k : Fin 3) : (rectS k).WholeWords (EltTy.packing .bf16) := by
  fin_cases k
  · exact wordsbf16_S3x128x4096_S1x128x4096_0_0_0
  · exact wordsbf16_S3x128x4096_S1x128x4096_1_0_0
  · exact wordsbf16_S3x128x4096_S1x128x4096_2_0_0

/-- One slot of a landing buffer. -/
def slotM (D : Bool) (k : Fin 3) : Memref sig .tc .vmem S128x4096 .bf16 :=
  ((rM D).slice (rectS k) (fun _ => rfl)).squeeze S128x4096 squeezes_S1x128x4096_S128x4096

theorem slotM_word (D : Bool) (k : Fin 3) : (slotM D k).view.WordExact :=
  ((rM_whole D).wordExact_slice rfl _ (wordsS k)).reshape _ _

/-- What hop `h` sends: the staged block at hop 0, afterwards the slot the hop before landed in. -/
def srcM (D : Bool) : ℕ → Memref sig .tc .vmem S128x4096 .bf16
  | 0 => sM
  | h + 1 => slotM D (sl h)

theorem srcM_word (D : Bool) : ∀ h : ℕ, (srcM D h).view.WordExact
  | 0 => (Memref.isWhole_whole cc0_scratch0).wordExact
  | h + 1 => slotM_word D (sl h)

/-- The transfer semaphores: direction, `false` for the send side and `true` for the receive side, slot. -/
def qsem : Bool → Bool → Fin 3 → DmaSem sig
  | true, false, k => ⟨3 + k.val, by have := k.isLt; show 3 + k.val < 15; omega⟩
  | true, true, k => ⟨6 + k.val, by have := k.isLt; show 6 + k.val < 15; omega⟩
  | false, false, k => ⟨9 + k.val, by have := k.isLt; show 9 + k.val < 15; omega⟩
  | false, true, k => ⟨12 + k.val, by have := k.isLt; show 12 + k.val < 15; omega⟩

abbrev barS : Sem sig := (SemArray.scalar (sig.barrier 0 rfl) : Sems sig S_).sem

/-! ## The steps -/

variable (F) in
abbrev PR (α : Type) : Type _ := Prog (TpuEff nD τ sig (Elt F) Λ₀ .tc) α

def pStart (D : Bool) (h : ℕ) (n : Dev nD) : PR F PUnit :=
  Prog.lift (.enqueueDma (srcM D h) (.remote (Dev.tc n) (slotM D (sl h)) (.dma (qsem D false (sl h)))) (.dma (qsem D true (sl h)))
    (srcM_word D h) (slotM_word D (sl h)) ⟨⟨rfl, Or.inl rfl⟩, trivial⟩)

def pSendWait (D : Bool) (h : ℕ) : PR F PUnit :=
  Prog.lift (.waitDma2 (qsem D false (sl h)) (slotM D (sl h)) (srcM D h) (slotM_word D (sl h)) (srcM_word D h))

def pRecvWait (D : Bool) (h : ℕ) : PR F PUnit :=
  Prog.lift (.waitDma2 (qsem D true (sl h)) (srcM D h) (slotM D (sl h)) (srcM_word D h) (slotM_word D (sl h)))

/-- The four waits that end an iteration. -/
def pWaits (h : ℕ) : PR F PUnit := do
  pSendWait true h
  pRecvWait true h
  pSendWait false h
  pRecvWait false h

abbrev InbO (off : Fin 2 → ℕ) : Prop := ∀ a, off a + S128x64.size a ≤ S4096x64.size a

abbrev rectO (off : Fin 2 → ℕ) (h : InbO off) : Rect S4096x64 := Rect.unit (s := S4096x64) off S128x64.size h

/-- Store one block of rows of the result: the rows are read first and not used. -/
def pPut (off : Fin 2 → ℕ) (h : InbO off) (v : FVec F S128x64 .f32) : PR F PUnit := do
  let _ : Vec F S128x64 .f32 ← Prog.lift (.load oM (rectO off h).toLoadRect (View.loadsAt_vmem h_S128x64))
  Prog.lift (.store oM (rectO off h) v Finset.univ (View.stores_vmem_bits_univ h_S128x64 rfl) (.inl rfl))

/-- Multiply the block in a slot and store the result. -/
def pGemm (D : Bool) (k : Fin 3) (off : Fin 2 → ℕ) (h : InbO off) (w : FVec F S4096x64 .bf16) : PR F PUnit := do
  let v : Vec F S1x128x4096 .bf16 ← Prog.lift (.load (rM D) (rectS k).toLoadRect (View.loadsAt_vmem h_S1x128x4096))
  pPut off h (k0_pay5 w v)

abbrev rectX : Rect S128x4096 := Rect.unit (s := S128x4096) ![0, 0] S128x4096.size inb_S128x4096_S128x4096_0_0
abbrev rectW : Rect S4096x64 := Rect.unit (s := S4096x64) ![0, 0] S4096x64.size inb_S4096x64_S4096x64_0_0

/-- Multiply the device's own block and store the result. -/
def pGemm0 (d0 : Dev nD) (w : FVec F S4096x64 .bf16) : PR F PUnit := do
  let v : Vec F S128x4096 .bf16 ← Prog.lift (.load sM rectX.toLoadRect (View.loadsAt_vmem h_S128x4096))
  pPut (k0_off1 d0) (k0_off1_inb d0) (k0_pay4 w v)

/-- Cast both operands: the block into its buffer, the weights as a value. -/
def pCast : PR F (FVec F S4096x64 .bf16) := do
  let v : Vec F S128x4096 .f32 ← Prog.lift (.load xM rectX.toLoadRect (View.loadsAt_vmem h_S128x4096))
  let _ : Vec F S128x4096 .bf16 ← Prog.lift (.load sM rectX.toLoadRect (View.loadsAt_vmem h_S128x4096))
  Prog.lift (.store sM rectX (k0_pay2 v) Finset.univ
    (View.stores_vmem h_S128x4096 ((Memref.isWhole_whole cc0_scratch0).storeExact_slice rfl _ packedbf16_S128x4096_S128x4096_0_0) (fun _ => rfl)) (.inl rfl))
  let w : Vec F S4096x64 .f32 ← Prog.lift (.load wM rectW.toLoadRect (View.loadsAt_vmem h_S4096x64))
  pure (k0_pay3 w)

/-- Tell both neighbours, and wait for both. -/
def pMeet (d0 : Dev nD) : PR F PUnit := do
  semSignalWord (⟨k0_dev1 d0, k0_dev1_lt d0⟩ : Dev nD) barS 1#32
  semSignalWord (⟨k0_dev2 d0, k0_dev2_lt d0⟩ : Dev nD) barS 1#32
  semWaitWord barS 2#32

/-! ## The devices the transfers name -/

/-- Where the transfers to the right go, hop by hop, as the kernel computes it. -/
def devF (d0 : Dev nD) : Fin 16 → Dev nD :=
  ![⟨k0_dev3 d0, k0_dev3_lt d0⟩, ⟨k0_dev5 d0, k0_dev5_lt d0⟩, ⟨k0_dev7 d0, k0_dev7_lt d0⟩, ⟨k0_dev9 d0, k0_dev9_lt d0⟩,
    ⟨k0_dev11 d0, k0_dev11_lt d0⟩, ⟨k0_dev13 d0, k0_dev13_lt d0⟩, ⟨k0_dev15 d0, k0_dev15_lt d0⟩, ⟨k0_dev17 d0, k0_dev17_lt d0⟩,
    ⟨k0_dev19 d0, k0_dev19_lt d0⟩, ⟨k0_dev21 d0, k0_dev21_lt d0⟩, ⟨k0_dev23 d0, k0_dev23_lt d0⟩, ⟨k0_dev25 d0, k0_dev25_lt d0⟩,
    ⟨k0_dev27 d0, k0_dev27_lt d0⟩, ⟨k0_dev29 d0, k0_dev29_lt d0⟩, ⟨k0_dev31 d0, k0_dev31_lt d0⟩, ⟨k0_dev33 d0, k0_dev33_lt d0⟩]

/-- Where the transfers to the left go. -/
def devB (d0 : Dev nD) : Fin 15 → Dev nD :=
  ![⟨k0_dev4 d0, k0_dev4_lt d0⟩, ⟨k0_dev6 d0, k0_dev6_lt d0⟩, ⟨k0_dev8 d0, k0_dev8_lt d0⟩, ⟨k0_dev10 d0, k0_dev10_lt d0⟩,
    ⟨k0_dev12 d0, k0_dev12_lt d0⟩, ⟨k0_dev14 d0, k0_dev14_lt d0⟩, ⟨k0_dev16 d0, k0_dev16_lt d0⟩, ⟨k0_dev18 d0, k0_dev18_lt d0⟩,
    ⟨k0_dev20 d0, k0_dev20_lt d0⟩, ⟨k0_dev22 d0, k0_dev22_lt d0⟩, ⟨k0_dev24 d0, k0_dev24_lt d0⟩, ⟨k0_dev26 d0, k0_dev26_lt d0⟩,
    ⟨k0_dev28 d0, k0_dev28_lt d0⟩, ⟨k0_dev30 d0, k0_dev30_lt d0⟩, ⟨k0_dev32 d0, k0_dev32_lt d0⟩]

/-! ## The iterations and the body -/

/-- The first iteration: both transfers send the staged block. -/
def pFirst (d0 : Dev nD) (w : FVec F S4096x64 .bf16) : PR F PUnit := do
  pStart true 0 (devF d0 0)
  pStart false 0 (devB d0 0)
  pGemm0 d0 w
  pWaits 0

/-- Iteration `r + 1`, of the fourteen in the middle. -/
def pIter (d0 : Dev nD) (w : FVec F S4096x64 .bf16) (r : Fin 14) : PR F PUnit := do
  pStart true (r.val + 1) (devF d0 ⟨r.val + 1, by omega⟩)
  pStart false (r.val + 1) (devB d0 ⟨r.val + 1, by omega⟩)
  pGemm true (sl r.val) (k0_off2 d0 (BitVec.ofNat 32 (1 + r.val))) (k0_off2_inb d0 ⟨r.val, by omega⟩) w
  pGemm false (sl r.val) (k0_off3 d0 (BitVec.ofNat 32 (1 + r.val))) (k0_off3_inb d0 ⟨r.val, by omega⟩) w
  pWaits (r.val + 1)

/-- The last `n` of the fourteen. -/
def pLoop (d0 : Dev nD) (w : FVec F S4096x64 .bf16) : (n : ℕ) → n ≤ 14 → PR F PUnit
  | 0, _ => pure ⟨⟩
  | n + 1, h => do
    pIter d0 w ⟨14 - (n + 1), by omega⟩
    pLoop d0 w n (Nat.le_of_succ_le h)

/-- The last iteration, to the right only, and the block it brings. -/
def pLast (d0 : Dev nD) (w : FVec F S4096x64 .bf16) : PR F PUnit := do
  pStart true 15 (devF d0 15)
  pGemm true (sl 14) (k0_off2 d0 15#32) (k0_off2_inb d0 14) w
  pGemm false (sl 14) (k0_off3 d0 15#32) (k0_off3_inb d0 14) w
  pSendWait true 15
  pRecvWait true 15
  pGemm true (sl 15) (k0_off2 d0 16#32) (k0_off2_inb d0 15) w

def pBody : PR F PUnit := do
  let d0 : Dev nD ← Prog.lift .deviceId
  pMeet d0
  let w ← pCast
  pFirst d0 w
  pLoop d0 w 14 (le_refl _)
  pLast d0 w

/-- The printed body is the chain of the steps. -/
theorem body_eq : cc0_body (F := F) xM (Memref.isWhole_whole _) wM (Memref.isWhole_whole _) oM (Memref.isWhole_whole _)
    sM (Memref.isWhole_whole _) (Memref.whole cc0_scratch1) (Memref.isWhole_whole _) (Memref.whole cc0_scratch2) (Memref.isWhole_whole _)
    cc0_scratch3 cc0_scratch4 cc0_scratch5 cc0_scratch6 = pBody := by
  chain_rfl

end Cert.RingProof

end
-- ==== Proof.Ring.lean ====
/-
# The ring's cells, contents and schedule

Every device sends in two directions at once. A hop carries a block one device further; the slot and the semaphore
of a hop are its number modulo three, and the round of that semaphore is its number divided by three.

Who may write a slot is settled by passing the slot itself around: the signal at the start hands a neighbour the
first slot it will write, and every hop carries, in the other direction, the next slot its receiver will write and
the fact that the sender's receive semaphore has come to the round of that hop.
-/
module

public import proofs.«01_k».proof.Proof.Prog
public import Idealize.SL.BI.BigOpNat
public import Mathlib.Algebra.BigOperators.Intervals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The ring -/

set_option backward.proofsInPublic true in
/-- The neighbour a direction sends to. -/
def dst : Bool → Dev nD → Dev nD
  | true, c => ⟨(c.val + 1) % 32, Nat.mod_lt _ (by decide)⟩
  | false, c => ⟨(c.val + 31) % 32, Nat.mod_lt _ (by decide)⟩

set_option backward.proofsInPublic true in
/-- The device whose block is in hand after `j` hops of a direction. -/
def org : Bool → Dev nD → ℕ → Dev nD
  | true, c, j => ⟨(c.val + 31 * j) % 32, Nat.mod_lt _ (by decide)⟩
  | false, c, j => ⟨(c.val + j) % 32, Nat.mod_lt _ (by decide)⟩

theorem dst_dst (D : Bool) (c : Dev nD) : dst (!D) (dst D c) = c := by
  have hc : c.val < 32 := c.isLt
  cases D <;> exact Fin.ext (by simp only [dst, Bool.not_true, Bool.not_false]; omega)

theorem dst_dst' (D : Bool) (c : Dev nD) : dst D (dst (!D) c) = c := by
  have := dst_dst (!D) c; rwa [Bool.not_not] at this

theorem org_zero (D : Bool) (c : Dev nD) : org D c 0 = c := by
  have hc : c.val < 32 := c.isLt
  cases D <;> exact Fin.ext (by simp only [org]; omega)

theorem org_dst (D : Bool) (c : Dev nD) (h : ℕ) : org D (dst D c) (h + 1) = org D c h := by
  have hc : c.val < 32 := c.isLt
  cases D <;> exact Fin.ext (by simp only [org, dst]; omega)

/-- The neighbours as a permutation of the devices. -/
def turn (D : Bool) : Dev nD ≃ Dev nD := ⟨dst D, dst (!D), dst_dst D, dst_dst' D⟩

/-- The number of hops a direction makes. -/
def HN : Bool → ℕ
  | true => 16
  | false => 15

theorem HN_le (D : Bool) : HN D ≤ 16 := by cases D <;> decide

theorem sl_add3 (h : ℕ) : sl (h + 3) = sl h := Fin.ext (by simp only [sl]; omega)

/-! ## The cells -/

/-- Which of a device's thirteen cells: the entry barrier, or a direction, a side and a slot. -/
abbrev Ck : Type := Option (Bool × Bool × Fin 3)

def csem : Ck → SemLoc sig
  | none => .reg barS
  | some (D, s, k) => .dma (qsem D s k)

abbrev osem : Bool × Bool × Fin 3 → SemLoc sig := fun x => .dma (qsem x.1 x.2.1 x.2.2)

abbrev kcell (ck : Dev nD × Ck) : GSem nD τ sig := ((ck.1 : Thread nD τ), csem ck.2)
abbrev barCell (c : Dev nD) : GSem nD τ sig := ((c : Thread nD τ), .reg barS)
/-- The cell of hop `h` of a direction, on the send side (`false`) or the receive side (`true`). -/
abbrev hcell (D s : Bool) (h : ℕ) (c : Dev nD) : GSem nD τ sig := ((c : Thread nD τ), .dma (qsem D s (sl h)))

def N : ℕ := (sM : Memref sig .tc .vmem S128x4096 .bf16).view.dmaCredit
theorem N_pos : 0 < N := View.dmaCredit_pos _ (by decide)

theorem slotM_credit (D : Bool) (k : Fin 3) : (slotM D k).view.dmaCredit = N := by cases D <;> rfl
theorem srcM_credit (D : Bool) : ∀ h : ℕ, (srcM D h).view.dmaCredit = N
  | 0 => rfl
  | h + 1 => slotM_credit D (sl h)

/-! ## The contents -/

/-- The staged operands. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The block a device contributes, and its weights, both cast. -/
def blk (c : Dev nD) : FVec F S128x4096 .bf16 := k0_pay2 (xstg m c)
def w16 (c : Dev nD) : FVec F S4096x64 .bf16 := k0_pay3 (wstg m c)

/-- The memref `M` of device `c` held at share `q`, reading `v`. -/
def heldM (c : Dev nD) (M : Memref sig .tc .vmem S128x4096 .bf16) (q : PosShare TreeShare) (v : FVec F S128x4096 .bf16) : sProp 𝕄 :=
  M.view.loc (c : Thread nD τ) ↦[M.view.set]{q} (M.view.write (Elt F) (m (M.view.loc (c : Thread nD τ))) v Finset.univ)

/-- The same memref held whole, at contents that do not matter. -/
def freeM (c : Dev nD) (M : Memref sig .tc .vmem S128x4096 .bf16) : sProp 𝕄 :=
  iprop(∃ f : Buf (Elt F) (M.view.loc (c : Thread nD τ)), M.view.loc (c : Thread nD τ) ↦[M.view.set]{fullShare} f)

omit [FloatOps F] in
instance heldM_storable (c : Dev nD) (M) (q) (v) : BI.Storable (upEmb : UEmb _ 𝕄) (heldM (F := F) m c M q v) := by unfold heldM; infer_instance
omit [FloatOps F] in
instance freeM_storable (c : Dev nD) (M) : BI.Storable (upEmb : UEmb _ 𝕄) (freeM (F := F) c M) := by unfold freeM; infer_instance

omit [FloatOps F] in
/-- Contents written through a view everywhere are, on the view's elements, what was written. -/
theorem pts_written (c : Dev nD) (M : Memref sig .tc .vmem S128x4096 .bf16) (q : PosShare TreeShare) (v : FVec F S128x4096 .bf16)
    (f : Buf (Elt F) (M.view.loc (c : Thread nD τ))) :
    (M.view.loc (c : Thread nD τ) ↦[M.view.set]{q} (M.view.write (Elt F) f v Finset.univ) : sProp 𝕄) = heldM m c M q v := by
  unfold heldM
  refine pointsTo_congr fun i hi => ?_
  obtain ⟨x, hx, rfl⟩ := Finset.mem_map.mp hi
  exact (View.write_emb_of_mem (Val := Elt F) (v := M.view) f v (Finset.mem_univ x)).trans
    (View.write_emb_of_mem (Val := Elt F) (v := M.view) (m (M.view.loc (c : Thread nD τ))) v (Finset.mem_univ x)).symm

omit [FloatOps F] in
theorem heldM_share (c : Dev nD) (M) (v) (q : PosShare TreeShare) :
    heldM (F := F) m c M q v ⊣⊢ iprop(heldM m c M q.left v ∗ heldM m c M q.right v) := by
  unfold heldM; exact pointsTo_share (PosShare.mem_left_op_right q)

omit [FloatOps F] in
theorem heldM_free (c : Dev nD) (M) (v) : heldM (F := F) m c M fullShare v ⊢ freeM c M := by
  unfold heldM freeM
  iintro H
  iexists _
  iexact H

/-! ## The schedule -/

/-- The share of its source a transfer takes: the first two read the staged block at once. -/
def shr : Bool → ℕ → PosShare TreeShare
  | false, 0 => fullShare.right.left
  | _, _ => fullShare.left

/-- What the neighbour in direction `D` hands to `e` before `e` may start hop `h` of that direction. -/
def grant (D : Bool) (h : ℕ) (e : Dev nD) : sProp 𝕄 :=
  iprop(freeM (dst D e) (slotM D (sl h)) ∗ reached ER (hcell D true h (dst D e)) (h / 3))

def grantIf (D : Bool) (h : ℕ) (e : Dev nD) : sProp 𝕄 := if h < HN D then grant D h e else iprop(emp)

def sendPay (D : Bool) (h : ℕ) (c : Dev nD) : sProp 𝕄 := heldM m c (srcM D h) (shr D h) (blk m (org D c h))
def recvPay (D : Bool) (h : ℕ) (e : Dev nD) : sProp 𝕄 :=
  iprop(heldM m e (slotM D (sl h)) fullShare (blk m (org D e (h + 1))) ∗ grantIf (!D) (h + 1) e)
def hopPay (D s : Bool) (h : ℕ) (c : Dev nD) : sProp 𝕄 := if s then recvPay m D h c else sendPay m D h c

omit [FloatOps F] in
instance grant_storable (D h e) : BI.Storable (upEmb : UEmb _ 𝕄) (grant (F := F) D h e) := by unfold grant; infer_instance
omit [FloatOps F] in
instance grantIf_storable (D h e) : BI.Storable (upEmb : UEmb _ 𝕄) (grantIf (F := F) D h e) := by unfold grantIf; split <;> infer_instance
instance hopPay_storable (D s h c) : BI.Storable (upEmb : UEmb _ 𝕄) (hopPay (F := F) m D s h c) := by
  unfold hopPay recvPay sendPay; split <;> infer_instance

/-- Direction, side and slot of a transfer semaphore. -/
def dirOf (q : DmaSem sig) : Bool := decide (q.val < 9)
def sideOf (q : DmaSem sig) : Bool := decide (q.val / 3 % 2 = 0)

theorem dirOf_q (D s : Bool) (k : Fin 3) : dirOf (qsem D s k) = D := by revert D s k; decide
theorem sideOf_q (D s : Bool) (k : Fin 3) : sideOf (qsem D s k) = s := by revert D s k; decide
theorem slotOf_q (D s : Bool) (k : Fin 3) : (qsem D s k).val % 3 = k.val := by revert D s k; decide
theorem q_ge (D s : Bool) (k : Fin 3) : 3 ≤ (qsem D s k).val := by revert D s k; decide

theorem hop_eq (h : ℕ) : 3 * (h / 3) + (sl h).val = h := by simp only [sl]; omega

/-- The rounds: one round of two duties of one unit for the entry barrier; for a transfer semaphore a round for every
    hop it serves, with the one duty of a block's credit. -/
def ringRd : Rounds.Schedule (GSem nD τ sig) Bool 𝕄 where
  duties g r := match g.2 with
    | .reg s => if g.1.2 = .tc ∧ s = barS ∧ r = 0 then Finset.univ else ∅
    | .dma q => if g.1.2 = .tc ∧ 3 ≤ q.val ∧ 3 * r + q.val % 3 < HN (dirOf q) then {false} else ∅
  unitless _ := False
  amount g _ _ := match g.2 with
    | .reg _ => 1
    | .dma _ => N
  payload g r d := match g.2 with
    | .reg _ => grant d 0 g.1.1
    | .dma q => hopPay m (dirOf q) (sideOf q) (3 * r + q.val % 3) g.1.1
  amount_pos g _ _ _ := by
    split
    · exact Nat.one_pos
    · exact N_pos

instance ringRd_payload_storable (g : GSem nD τ sig) (r : ℕ) (d : Bool) :
    BI.Storable (upEmb : UEmb _ 𝕄) ((ringRd (F := F) m).payload g r d) := by
  dsimp only [ringRd]
  split <;> infer_instance

section Sched
variable (c : Dev nD) (D s : Bool) (h : ℕ)

theorem duties_bar : (ringRd (F := F) m).duties (barCell c) 0 = Finset.univ := by
  dsimp only [ringRd]; exact if_pos ⟨rfl, rfl, rfl⟩
theorem duties_bar_later : ∀ r, 1 ≤ r → (ringRd (F := F) m).duties (barCell c) r = ∅ :=
  fun r hr => if_neg fun h => by have := h.2.2; omega
theorem duties_hop (hh : h < HN D) : (ringRd (F := F) m).duties (hcell D s h c) (h / 3) = {false} :=
  if_pos ⟨rfl, q_ge D s _, by rw [dirOf_q, slotOf_q, hop_eq]; exact hh⟩
theorem duties_done (hh : HN D ≤ h) : ∀ r, h / 3 ≤ r → (ringRd (F := F) m).duties (hcell D s h c) r = ∅ :=
  fun r hr => if_neg fun hx => by
    have h3 := hx.2.2; rw [dirOf_q, slotOf_q] at h3
    have h4 := hop_eq h
    omega
theorem amount_bar (r : ℕ) (d : Bool) : (ringRd (F := F) m).amount (barCell c) r d = 1 := rfl
theorem amount_hop (r : ℕ) (d : Bool) : (ringRd (F := F) m).amount (hcell D s h c) r d = N := rfl
theorem payload_bar (r : ℕ) (d : Bool) : (ringRd (F := F) m).payload (barCell c) r d = grant d 0 c := rfl
theorem payload_hop (d : Bool) : (ringRd (F := F) m).payload (hcell D s h c) (h / 3) d = hopPay m D s h c := by
  show hopPay m (dirOf (qsem D s (sl h))) (sideOf (qsem D s (sl h))) (3 * (h / 3) + (qsem D s (sl h)).val % 3) c = _
  rw [dirOf_q, sideOf_q, slotOf_q, hop_eq]

theorem expect_bar : (ringRd (F := F) m).expect (barCell c) 0 = 2 := by
  unfold Schedule.expect Schedule.amountOf
  rw [duties_bar, Finset.sum_congr rfl fun d _ => amount_bar m c 0 d]; rfl
theorem expect_hop (hh : h < HN D) : (ringRd (F := F) m).expect (hcell D s h c) (h / 3) = N := by
  unfold Schedule.expect Schedule.amountOf
  rw [duties_hop m c D s h hh, Finset.sum_singleton]; rfl

theorem rest_bar : bigSep ((ringRd (F := F) m).duties (barCell c) 0 \ ∅) (fun d => (ringRd (F := F) m).payload (barCell c) 0 d)
    = iprop(grant true 0 c ∗ grant false 0 c) := by
  rw [Finset.sdiff_empty, duties_bar, bigSep_univ_eq_bigSepL [true, false] (by decide) (by decide), bigSepL_cons_cons, bigSepL_singleton]
  rfl
theorem rest_hop (hh : h < HN D) :
    bigSep ((ringRd (F := F) m).duties (hcell D s h c) (h / 3) \ ∅) (fun d => (ringRd (F := F) m).payload (hcell D s h c) (h / 3) d)
      = hopPay m D s h c := by
  rw [Finset.sdiff_empty, duties_hop m c D s h hh, bigSep_singleton, payload_hop]

end Sched

/-! ## What a device owes; the levels -/

/-- What is owed for the hops of a direction from `h` on. -/
def OD (D : Bool) (h : ℕ) (c : Dev nD) : CellTallies nD τ sig ℕ :=
  ∑ j ∈ Finset.Ico h (HN D), tallyAt (hcell D true j (dst D c)) (j + 2) N

def O₁ (c : Dev nD) : CellTallies nD τ sig ℕ := OD true 0 c + OD false 0 c
def O₀ (c : Dev nD) : CellTallies nD τ sig ℕ := O₁ c + tallyAt (barCell (dst true c)) 1 1 + tallyAt (barCell (dst false c)) 1 1

theorem OD_step (D : Bool) (h : ℕ) (c : Dev nD) (hh : h < HN D) :
    OD D h c = OD D (h + 1) c + tallyAt (hcell D true h (dst D c)) (h + 2) N := by
  unfold OD; rw [Finset.sum_eq_sum_Ico_succ_bot hh]; exact add_comm _ _

theorem OD_end (D : Bool) (h : ℕ) (c : Dev nD) (hh : HN D ≤ h) : OD D h c = 0 := by
  unfold OD; rw [Finset.Ico_eq_empty (by omega), Finset.sum_empty]

def L (g : GSem nD τ sig) : Finset ℕ := if g.1.2 = .tc then Finset.range 18 else ∅
def lv (g : GSem nD τ sig) (i : ℕ) : ℕ := i

theorem L_of_ne (g : GSem nD τ sig) (h : g.1.2 ≠ .tc) : L g = ∅ := if_neg h

/-- Everything in `O` is owed to a core's cell at an index above `b`. -/
def Above (b : ℕ) (O : CellTallies nD τ sig ℕ) : Prop := ∀ (g : GSem nD τ sig) (u : ℕ), 0 < O g u → g.1.2 = .tc ∧ b < u ∧ u < 18

theorem Above.add {b : ℕ} {O O' : CellTallies nD τ sig ℕ} (h : Above b O) (h' : Above b O') : Above b (O + O') := fun g u hg => by
  rw [Pi.add_apply, Finsupp.add_apply] at hg
  rcases Nat.eq_zero_or_pos (O g u) with h0 | h0
  · exact h' g u (by omega)
  · exact h g u h0

theorem Above.tally {b : ℕ} (c : Dev nD) (sm : SemLoc sig) (u k : ℕ) (hb : b < u) (hu : u < 18) :
    Above b (tallyAt ((c : Thread nD τ), sm) u k) := fun g u' hg => by
  rw [tallyAt_apply] at hg
  by_cases h : g = ((c : Thread nD τ), sm) ∧ u' = u
  · rw [h.1, h.2]; exact ⟨rfl, hb, hu⟩
  · rw [if_neg h] at hg; exact absurd hg (Nat.lt_irrefl 0)

theorem Above.zero (b : ℕ) : Above b 0 := fun g u hg => absurd hg (Nat.lt_irrefl 0)

theorem above_OD (D : Bool) (h b : ℕ) (c : Dev nD) (hb : b < h + 2) : Above b (OD D h c) := by
  unfold OD
  refine Finset.sum_induction _ (Above b) (fun _ _ => Above.add) (Above.zero b) fun j hj => ?_
  have hj' := Finset.mem_Ico.mp hj
  have := HN_le D
  exact Above.tally _ _ _ _ (by omega) (by omega)

omit [FloatOps F] in
theorem mayWait (c : Dev nD) (sm : SemLoc sig) (b : ℕ) (hb : b < 18) (O : CellTallies nD τ sig ℕ) (hO : Above b O) :
    (levAts L lv : sProp 𝕄) ⊢ MayWait (c : Thread nD τ) sm b O :=
  MayOwe.of_cut (L := L) (lev := lv) b
    (fun p hp => by
      rw [Finset.mem_singleton.mp hp]; show b ∈ L ((c : Thread nD τ), sm); rw [L, if_pos rfl]; exact Finset.mem_range.mpr hb)
    (fun g u hg => by rw [L, if_pos (hO g u hg).1]; exact Finset.mem_range.mpr (hO g u hg).2.2)
    (fun p hp => by rw [Finset.mem_singleton.mp hp]; exact le_refl b)
    (fun g u hg => (hO g u hg).2.1)

/-! ## What a device holds -/

/-- Every cell's invariant under the names `K`, and every cell at round 0. -/
def records (K : Dev nD × Ck → ℕ) : sProp 𝕄 :=
  iprop((bigSep Finset.univ fun ck : Dev nD × Ck => cellInv ER (ringRd m) (K ck) (kcell ck))
    ∗ (bigSep Finset.univ fun ck : Dev nD × Ck => reached ER (kcell ck) 0) ∗ levAts L lv)

instance records_persistent (K : Dev nD × Ck → ℕ) : BI.Persistent (records (F := F) m K) := by unfold records; infer_instance

theorem records_inv (K : Dev nD × Ck → ℕ) (ck : Dev nD × Ck) : records (F := F) m K ⊢ cellInv ER (ringRd m) (K ck) (kcell ck) :=
  BI.sep_and.trans <| and_elimL.trans <| bigSep_elim (Φ := fun ck => cellInv ER (ringRd m) (K ck) (kcell ck)) (Finset.mem_univ ck)
theorem records_reached (K : Dev nD × Ck → ℕ) (ck : Dev nD × Ck) : records (F := F) m K ⊢ reached ER (kcell ck) 0 :=
  BI.sep_and.trans <| and_elimR.trans <| BI.sep_and.trans <| and_elimL.trans <| bigSep_elim (Φ := fun ck => reached ER (kcell ck) 0) (Finset.mem_univ ck)

theorem inv_hop (K : Dev nD × Ck → ℕ) (D s : Bool) (h : ℕ) (c : Dev nD) :
    records (F := F) m K ⊢ cellInv ER (ringRd m) (K (c, some (D, s, sl h))) (hcell D s h c) := records_inv m K (c, some (D, s, sl h))
theorem inv_bar (K : Dev nD × Ck → ℕ) (c : Dev nD) :
    records (F := F) m K ⊢ cellInv ER (ringRd m) (K (c, none)) (barCell c) := records_inv m K (c, none)
theorem reached_bar (K : Dev nD × Ck → ℕ) (c : Dev nD) : records (F := F) m K ⊢ reached ER (barCell c) 0 := records_reached m K (c, none)
theorem reached_hop (K : Dev nD × Ck → ℕ) (D s : Bool) (h : ℕ) (hh : h < 3) (c : Dev nD) : records (F := F) m K ⊢ reached ER (hcell D s h c) (h / 3) := by
  rw [Nat.div_eq_of_lt hh]; exact records_reached m K (c, some (D, s, sl h))
theorem records_mayWait (K : Dev nD × Ck → ℕ) (c : Dev nD) (sm : SemLoc sig) (b : ℕ) (hb : b < 18) (O : CellTallies nD τ sig ℕ) (hO : Above b O) :
    records (F := F) m K ⊢ MayWait (c : Thread nD τ) sm b O :=
  BI.sep_and.trans <| and_elimR.trans <| BI.sep_and.trans <| and_elimR.trans <| mayWait c sm b hb O hO

/-- The position on a cell whose next hop is `j`; the cell's round is known reached. -/
def pos (D s : Bool) (j : ℕ) (c : Dev nD) : sProp 𝕄 :=
  iprop(atPos ER (hcell D s j c) (j / 3) ∅ 0 ∗ reached ER (hcell D s j c) (j / 3))

/-- The positions on the three cells of one side of a direction, the next hop being `h`. -/
def posn (D s : Bool) (h : ℕ) (c : Dev nD) : sProp 𝕄 := iprop(pos D s h c ∗ pos D s (h + 1) c ∗ pos D s (h + 2) c)

/-- What a device needs once for hop `j`: the two duties it pays and the credit it waits with. -/
def hopTok (D : Bool) (j : ℕ) (c : Dev nD) : sProp 𝕄 :=
  iprop(dutyTok ER (hcell D false j c) (j / 3) false ∗ dutyTok ER (hcell D true j (dst D c)) (j / 3) false
    ∗ cred (tallyAt (hcell D true j c) (j + 2) N))

def hopToks (D : Bool) (h : ℕ) (c : Dev nD) : sProp 𝕄 := bigSep (Finset.Ico h (HN D)) fun j => hopTok D j c

omit [FloatOps F] in
theorem hopToks_step (D : Bool) (h : ℕ) (c : Dev nD) (hh : h < HN D) :
    hopToks (F := F) D h c = iprop(hopTok D h c ∗ hopToks D (h + 1) c) := by
  unfold hopToks
  exact Idealize.SL.BI.bigSep_Ico_succ_bot hh fun j => hopTok D j c

end Cert.RingProof

end
-- ==== Proof.Steps.lean ====
/-
# One step at a time

What each step of the kernel needs and leaves: starting a hop, waiting for one side of it, storing a block of the
result, multiplying the block in a slot.
-/
module

public import proofs.«01_k».proof.Proof.Ring
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- What a device owes, whatever it has waited for so far. -/
def owesE (c : Dev nD) (O : CellTallies nD τ sig ℕ) : sProp 𝕄 := iprop(∃ W, owes (c : Thread nD τ) O W)

/-! ## A hop's start and its waits -/

/-- What starting hop `h` uses up. -/
def startIn (D : Bool) (h : ℕ) (c : Dev nD) : sProp 𝕄 :=
  iprop(dutyTok ER (hcell D false h c) (h / 3) false ∗ dutyTok ER (hcell D true h (dst D c)) (h / 3) false
    ∗ reached ER (hcell D false h c) (h / 3) ∗ grant D h c
    ∗ heldM m c (srcM D h) (shr D h) (blk m (org D c h)) ∗ grantIf (!D) (h + 1) (dst D c))

theorem start_spec (K : Dev nD × Ck → ℕ) (D : Bool) (h : ℕ) (hh : h < HN D) (c n : Dev nD) (hn : n = dst D c)
    (O₀ O : CellTallies nD τ sig ℕ) (hO : O₀ = O + tallyAt (hcell D true h (dst D c)) (h + 2) N) (Q : PUnit → sProp 𝕄) :
    iprop(records m K ∗ owesE c O₀ ∗ startIn m D h c)
      ⊢ iprop(((owesE c O ∗ cred (tallyAt (hcell D false h c) 0 N)) -∗ Q ⟨⟩) -∗ wp frame (wpE (defs₀ (F := F)) 𝒱₀ (c : Thread nD τ) none) Set.univ (pStart D h n) Q) := by
  subst hn
  unfold pStart Prog.lift owesE startIn grant freeM
  iintro ⟨#HR, ⟨%W, HO⟩, HtS, HtV, #HrS, ⟨⟨%fd, Hd⟩, #HrV⟩, Hsrc, Hg⟩ Hk
  iapply (Rounds.wp_send_pointsTo_with 𝒱₀ ER (ringRd m) (c : Thread nD τ) none
    (κ₁ := K (c, some (D, false, sl h))) (κ₂ := K (dst D c, some (D, true, sl h))) (r₁ := h / 3) (r₂ := h / 3) (d₁ := false) (d₂ := false) (fd := fd)
    (F := grantIf (!D) (h + 1) (dst D c))
    (by rw [duties_hop m c D false h hh]; exact Finset.mem_singleton_self _)
    (by rw [duties_hop m (dst D c) D true h hh]; exact Finset.mem_singleton_self _)
    (h + 2) 0 N (show (slotM D (sl h)).view.amount (.dma (qsem D true (sl h))) = N from slotM_credit D (sl h)) (amount_hop m c D false h _ false) (amount_hop m (dst D c) D true h _ false) O hO (W := W)
    (q := shr D h) (fs := (srcM D h).view.write (Elt F) (m ((srcM D h).view.loc (c : Thread nD τ))) (blk m (org D c h)) Finset.univ)
    (by rw [payload_hop]; exact BI.Entails.refl _)
    (by
      rw [payload_hop, View.read_write_univ, pts_written m (dst D c) (slotM D (sl h)) fullShare (blk m (org D c h)) fd, ← org_dst D c h]
      exact BI.Entails.refl _)) $$ [HO HtS HtV Hd Hsrc Hg]
  · isplitr; · iapply (inv_hop m K D false h c); iexact HR
    isplitr; · iapply (inv_hop m K D true h (dst D c)); iexact HR
    isplitl [Hsrc]; · unfold heldM; iexact Hsrc
    isplitl [Hd Hg]
    · isplitl [Hd]; · iexact Hd
      iexact Hg
    isplitl [HO]; · iexact HO
    isplitl [HtS]; · iexact HtS
    isplitr; · iexact HrS
    isplitl [HtV]; · iexact HtV
    iexact HrV
  iintro ⟨HcS, HO⟩
  rw [wp_ret]; imodintro
  iapply Hk
  isplitl [HO]; · iexists W; iexact HO
  iexact HcS

omit [FloatOps F] in
theorem hcell_add3 (D s : Bool) (h : ℕ) (c : Dev nD) : hcell D s (h + 3) c = hcell D s h c := by
  unfold hcell; rw [sl_add3]

/-- A wait for one side of hop `h`: the cell's next round, and the hop's payload. -/
theorem wait_spec (K : Dev nD × Ck → ℕ) (D s : Bool) (h ι : ℕ) (hh : h < HN D) (hι : ι < 18) (c : Dev nD)
    (a b : Memref sig .tc .vmem S128x4096 .bf16) (ha : a.view.WordExact) (hb : b.view.WordExact) (hN : b.view.dmaCredit = N)
    (O : CellTallies nD τ sig ℕ) (hO : Above ι O) (Q : PUnit → sProp 𝕄) :
    iprop(records m K ∗ owesE c O ∗ cred (tallyAt (hcell D s h c) ι N) ∗ atPos ER (hcell D s h c) (h / 3) ∅ 0)
      ⊢ iprop(((owesE c O ∗ pos D s (h + 3) c ∗ hopPay m D s h c) -∗ Q ⟨⟩)
          -∗ wp frame (wpE (defs₀ (F := F)) 𝒱₀ (c : Thread nD τ) none) Set.univ (Prog.lift (.waitDma2 (qsem D s (sl h)) a b ha hb)) Q) := by
  unfold Prog.lift owesE pos
  rw [hcell_add3, Nat.add_div_right h (by decide : 0 < 3), ← hN]
  iintro ⟨#HR, ⟨%W, HO⟩, Hc, Hat⟩ Hk
  have hmw : records m K ⊢ MayWait (c : Thread nD τ) (.dma (qsem D s (sl h))) ι O :=
    records_mayWait m K c _ ι hι O hO
  have hk : 0 + b.view.dmaCredit = (ringRd (F := F) m).expect (hcell D s h c) (h / 3) :=
    (Nat.zero_add _).trans (hN.trans (expect_hop m c D s h hh).symm)
  iapply (Rounds.wp_wait_rest_token 𝒱₀ ER (ringRd m) (c : Thread nD τ) none (κ := K (c, some (D, s, sl h)))
      (wpE_waitDma2_eq 𝒱₀ (c : Thread nD τ) none Set.univ) (Set.mem_univ _) ι (O := O) (W := W) (R := h / 3) (m := 0) (T := ∅)
      hk) $$ [HO Hc Hat]
  · isplitr; · iapply (inv_hop m K D s h c); iexact HR
    isplitl [Hc]; · iexact Hc
    isplitl [HO]; · iexact HO
    isplitr; · iapply hmw; iexact HR
    iexact Hat
  iintro ⟨HO, Hat, Hr, Hpay⟩
  ihave Hpay := (Entails.of_eq (rest_hop m c D s h hh)) $$ Hpay
  rw [wp_ret]; imodintro
  iapply Hk
  isplitl [HO]; · iexists _; iexact HO
  isplitl [Hat Hr]
  · isplitl [Hat] <;> iassumption
  iexact Hpay

/-! ## The result -/

/-- Which device's block a row of the result comes from, and where in the block. -/
def blkOf (i : S4096x64.Idx) : Dev nD := ⟨(i 0).val / 128, by have : (i 0).val < 4096 := (i 0).isLt; show _ < 32; omega⟩
def inBlk (i : S4096x64.Idx) : S128x64.Idx := fun
  | 0 => ⟨(i 0).val % 128, Nat.mod_lt _ (by decide)⟩
  | 1 => ⟨(i 1).val, (i 1).isLt⟩

/-- The kernel's result on device `c`. -/
def outAt (c : Dev nD) : (cc0_stg2_0 : Ref sig .tc).ty.Contents (Elt F) :=
  fun i => k0_pay4 (w16 m c) (blk m (blkOf i)) (inBlk i)

/-- The result's buffer, holding what it should on the blocks in `P`. -/
def outS (c : Dev nD) (P : Dev nD → Prop) : sProp 𝕄 :=
  iprop(∃ f : Buf (Elt F) (oM.view.loc (c : Thread nD τ)), ⌜∀ i, P (blkOf i) → f i = outAt m c i⌝ ∗ (oM.view.loc (c : Thread nD τ) ↦{fullShare} f))

omit [FloatOps F] in
theorem rectO_idx (d : Dev nD) (off : Fin 2 → ℕ) (h : InbO off) (hoff : off = ![128 * d.val, 0]) (x : S128x64.Idx) :
    blkOf ((rectO off h).emb x) = d ∧ inBlk ((rectO off h).emb x) = x := by
  subst hoff
  have h0 : (((rectO _ h).emb x) 0).val = 128 * d.val + 1 * (x 0).val := rfl
  have h1 : (((rectO _ h).emb x) 1).val = 0 + 1 * (x 1).val := rfl
  have hx : (x 0).val < 128 := (x 0).isLt
  constructor
  · refine Fin.ext ?_
    show (((rectO _ h).emb x) 0).val / 128 = d.val
    omega
  · funext a
    refine Fin.ext ?_
    fin_cases a
    · show (((rectO _ h).emb x) 0).val % 128 = (x 0).val; omega
    · show (((rectO _ h).emb x) 1).val = (x 1).val; omega

omit [FloatOps F] in
theorem rectO_of (d : Dev nD) (off : Fin 2 → ℕ) (h : InbO off) (hoff : off = ![128 * d.val, 0]) (i : S4096x64.Idx) (hi : blkOf i = d) :
    (rectO off h).emb (inBlk i) = i := by
  subst hoff
  have hd : (i 0).val / 128 = d.val := congrArg Fin.val hi
  funext a
  refine Fin.ext ?_
  fin_cases a
  · show 128 * d.val + 1 * ((i 0).val % 128) = (i 0).val; omega
  · show 0 + 1 * (i 1).val = (i 1).val; omega

theorem put_value (c d : Dev nD) (off : Fin 2 → ℕ) (h : InbO off) (hoff : off = ![128 * d.val, 0]) (v : FVec F S128x64 .f32)
    (hv : v = k0_pay4 (w16 m c) (blk m d)) (P : Dev nD → Prop) (f : (cc0_stg2_0 : Ref sig .tc).ty.Contents (Elt F))
    (hf : ∀ i, P (blkOf i) → f i = outAt m c i) (i : S4096x64.Idx) (hi : P (blkOf i) ∨ blkOf i = d) :
    (oM.access (rectO off h) : View sig .tc _ _ _).write (Elt F) f v Finset.univ i = outAt m c i := by
  by_cases hd : blkOf i = d
  · have hw := View.write_emb_of_mem (Val := Elt F) (v := (oM.access (rectO off h) : View sig .tc _ _ _)) f v (Finset.mem_univ (inBlk i))
    have he : (oM.access (rectO off h) : View sig .tc _ _ _).emb (inBlk i) = i := rectO_of d off h hoff i hd
    rw [he] at hw
    refine hw.trans ?_
    show v (inBlk i) = outAt m c i
    rw [hv, outAt, hd]
  · refine (View.write_of_not_mem (Val := Elt F) (v := (oM.access (rectO off h) : View sig .tc _ _ _)) f v Finset.univ fun hm => hd ?_).trans
      (hf i (hi.resolve_right hd))
    obtain ⟨x, -, hx⟩ := Finset.mem_map.mp hm
    have hx' : (rectO off h).emb x = i := hx
    rw [← hx']; exact (rectO_idx d off h hoff x).1

theorem put_spec (c d : Dev nD) (off : Fin 2 → ℕ) (h : InbO off) (hoff : off = ![128 * d.val, 0]) (v : FVec F S128x64 .f32)
    (hv : v = k0_pay4 (w16 m c) (blk m d)) (P P' : Dev nD → Prop) (hP : ∀ e, P' e → P e ∨ e = d) (Q : PUnit → sProp 𝕄) :
    outS m c P ⊢ iprop((outS m c P' -∗ Q ⟨⟩) -∗ wp frame (wpE (defs₀ (F := F)) 𝒱₀ (c : Thread nD τ) none) Set.univ (pPut off h v) Q) := by
  unfold outS pPut
  simp only [Prog.lift, Prog.bind_op, Prog.bind_ret, Prog.pure_eq_ret]
  iintro ⟨%f, %hf, Ho⟩ Hk
  iapply (wp_load 𝒱₀ (c : Thread nD τ) none Set.univ (m := oM) (Finset.subset_univ _)) $$ Ho; iintro Ho
  iapply (wp_store 𝒱₀ (c : Thread nD τ) none Set.univ (m := oM) (r := rectO off h) (Mk := Finset.univ) (Finset.subset_univ _)) $$ Ho; iintro Ho
  rw [wp_ret]; imodintro
  iapply Hk
  iexists _
  isplitr
  · ipureintro
    exact fun i hi => put_value m c d off h hoff v hv P f hf i (hP _ hi)
  iexact Ho

/-! ## A slot's contents -/

omit [FloatOps F] in
theorem slot_set (D : Bool) (k : Fin 3) : (slotM D k).view.set = (rM D).view.setOn (rectS k).set := by
  show (((rM D).view.slice (rectS k)).reshape _ _).set = _
  rw [View.set_reshape, View.set_slice]; rfl

omit [FloatOps F] in
theorem heldM_slot (c : Dev nD) (D : Bool) (k : Fin 3) (q : PosShare TreeShare) (v : FVec F S128x4096 .bf16) :
    ∃ fs : Buf (Elt F) ((rM D).view.loc (c : Thread nD τ)),
      heldM m c (slotM D k) q v = ((rM D).view.loc (c : Thread nD τ) ↦[(slotM D k).view.set]{q} fs : sProp 𝕄)
        ∧ shapeCast S128x4096 ((rM D).view.readAt (Elt F) (rectS k).toLoadRect fs) shapeCasts_S1x128x4096_S128x4096 = v :=
  ⟨_, rfl, (Memref.read_squeeze_slice (Val := Elt F) (rM D) (rectS k) (fun _ => rfl) squeezes_S1x128x4096_S128x4096 shapeCasts_S1x128x4096_S128x4096 _).symm.trans
      (View.read_write_univ (Val := Elt F) (v := (slotM D k).view) _ _)⟩

/-- Multiplying the block in a slot. -/
theorem gemm_spec (c d : Dev nD) (D : Bool) (k : Fin 3) (q : PosShare TreeShare) (off : Fin 2 → ℕ) (h : InbO off) (hoff : off = ![128 * d.val, 0])
    (P P' : Dev nD → Prop) (hP : ∀ e, P' e → P e ∨ e = d) (Q : PUnit → sProp 𝕄) :
    iprop(heldM m c (slotM D k) q (blk m d) ∗ outS m c P)
      ⊢ iprop(((heldM m c (slotM D k) q (blk m d) ∗ outS m c P') -∗ Q ⟨⟩) -∗ wp frame (wpE (defs₀ (F := F)) 𝒱₀ (c : Thread nD τ) none) Set.univ (pGemm D k off h (w16 m c)) Q) := by
  obtain ⟨fs, he, hfs⟩ := heldM_slot m c D k q (blk m d)
  have hv : k0_pay5 (w16 m c) ((rM D).view.readAt (Elt F) (rectS k).toLoadRect fs) = k0_pay4 (w16 m c) (blk m d) :=
    congrArg (k0_pay4 (w16 m c)) hfs
  rw [he]; unfold pGemm
  simp only [Prog.lift, Prog.bind_op, Prog.bind_ret, Prog.pure_eq_ret]
  iintro ⟨Hs, Ho⟩ Hk
  iapply (wp_load 𝒱₀ (c : Thread nD τ) none Set.univ (m := rM D) (r := (rectS k).toLoadRect) (S := (slotM D k).view.set) (q := q)
    (by rw [slot_set])) $$ Hs; iintro Hs
  iapply (put_spec m c d off h hoff _ hv P P' hP Q) $$ Ho
  iintro Ho
  iapply Hk
  isplitl [Hs]; · iexact Hs
  iexact Ho

end Cert.RingProof

end
-- ==== Proof.Hops.lean ====
/-
# The iterations

A hop from its start to its waits, an iteration of both directions, and the run of the fourteen iterations in the
middle.
-/
module

public import proofs.«01_k».proof.Proof.Steps
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## A hop -/

/-- The positions of a direction whose next hop is `h`, and what its later hops need. -/
def hopP (D : Bool) (h : ℕ) (c : Dev nD) : sProp 𝕄 := iprop(posn D false h c ∗ posn D true h c ∗ hopToks D h c)

/-- The same while hop `h` is under way. -/
def midP (D : Bool) (h : ℕ) (c : Dev nD) : sProp 𝕄 :=
  iprop((atPos ER (hcell D false h c) (h / 3) ∅ 0 ∗ pos D false (h + 1) c ∗ pos D false (h + 2) c)
    ∗ (atPos ER (hcell D true h c) (h / 3) ∅ 0 ∗ pos D true (h + 1) c ∗ pos D true (h + 2) c)
    ∗ hopToks D (h + 1) c ∗ cred (tallyAt (hcell D false h c) 0 N) ∗ cred (tallyAt (hcell D true h c) (h + 2) N))

/-- A slot that is not handed on, past the last hop. -/
def keep (D : Bool) (j : ℕ) (c : Dev nD) : sProp 𝕄 := if j < HN D then iprop(emp) else freeM c (slotM D (sl j))

omit [FloatOps F] in
/-- The free slot for hop `j` is handed on when there is such a hop. -/
theorem give (D E : Bool) (hE : E = !D) (h : ℕ) (c : Dev nD) :
    iprop(freeM (F := F) c (slotM E (sl (h + 1))) ∗ reached ER (hcell E true (h + 1) c) ((h + 1) / 3))
      ⊢ iprop(grantIf E (h + 1) (dst D c) ∗ keep E (h + 1) c) := by
  subst hE
  unfold grantIf keep grant
  rw [dst_dst]
  split
  · iintro ⟨H, Hr⟩
    isplitl
    · isplitl [H] <;> iassumption
    iempintro
  · iintro ⟨H, Hr⟩
    isplitr; · iempintro
    iexact H

omit [FloatOps F] in
/-- The round the next hop's receive cell has come to. -/
theorem hopP_next (D : Bool) (h : ℕ) (c : Dev nD) :
    hopP (F := F) D h c ⊢ iprop(hopP D h c ∗ reached ER (hcell D true (h + 1) c) ((h + 1) / 3)) := by
  unfold hopP posn pos
  iintro ⟨H1, ⟨H2, ⟨H3, #Hr⟩, H4⟩, H5⟩
  isplitl
  · isplitl [H1]; · iexact H1
    isplitl [H2 H3 H4]
    · isplitl [H2]; · iexact H2
      isplitl [H3]
      · isplitl [H3]; · iexact H3
        iexact Hr
      iexact H4
    iexact H5
  iexact Hr

theorem start_hop (K : Dev nD × Ck → ℕ) (D E : Bool) (hE : E = !D) (h : ℕ) (hh : h < HN D) (c n : Dev nD) (hn : n = dst D c)
    (O₀ O : CellTallies nD τ sig ℕ) (hO : O₀ = O + tallyAt (hcell D true h (dst D c)) (h + 2) N) (Q : PUnit → sProp 𝕄) :
    iprop(records m K ∗ owesE c O₀ ∗ hopP D h c ∗ grant D h c ∗ heldM m c (srcM D h) (shr D h) (blk m (org D c h)) ∗ grantIf E (h + 1) (dst D c))
      ⊢ iprop(((owesE c O ∗ midP D h c) -∗ Q ⟨⟩) -∗ wp frame (wpE (defs₀ (F := F)) 𝒱₀ (c : Thread nD τ) none) Set.univ (pStart D h n) Q) := by
  subst hE
  unfold hopP midP posn
  rw [hopToks_step D h c hh]
  unfold hopTok
  iintro ⟨#HR, HO, ⟨⟨Hp, HS⟩, ⟨⟨Hq, HV⟩, ⟨HtS, HtV, Hc⟩, Ht⟩⟩, Hg, Hs, Hn⟩ Hk
  unfold pos
  icases Hp with ⟨Hp, #Hr⟩
  icases Hq with ⟨Hq, -⟩
  iapply (start_spec m K D h hh c n hn O₀ O hO Q) $$ [HO HtS HtV Hg Hs Hn]
  · isplitr; · iexact HR
    isplitl [HO]; · iexact HO
    unfold startIn
    isplitl [HtS]; · iexact HtS
    isplitl [HtV]; · iexact HtV
    isplitr; · iexact Hr
    isplitl [Hg]; · iexact Hg
    isplitl [Hs]; · iexact Hs
    iexact Hn
  iintro ⟨HO, HcS⟩
  iapply Hk
  isplitl [HO]; · iexact HO
  isplitl [Hp HS]
  · isplitl [Hp]; · iexact Hp
    iexact HS
  isplitl [Hq HV]
  · isplitl [Hq]; · iexact Hq
    iexact HV
  isplitl [Ht]; · iexact Ht
  isplitl [HcS]; · iexact HcS
  iexact Hc

/-- Both waits of a hop: its source back, the block it received, and the next slot to write in the other direction. -/
theorem wait_hop (K : Dev nD × Ck → ℕ) (D E : Bool) (hE : E = !D) (h : ℕ) (hh : h < HN D) (c : Dev nD)
    (O : CellTallies nD τ sig ℕ) (hO : Above (h + 2) O) (Q : PUnit → sProp 𝕄) :
    iprop(records m K ∗ owesE c O ∗ midP D h c)
      ⊢ iprop(((owesE c O ∗ hopP D (h + 1) c ∗ heldM m c (srcM D h) (shr D h) (blk m (org D c h))
              ∗ heldM m c (srcM D (h + 1)) fullShare (blk m (org D c (h + 1))) ∗ grantIf E (h + 1) c) -∗ Q ⟨⟩)
          -∗ wp frame (wpE (defs₀ (F := F)) 𝒱₀ (c : Thread nD τ) none) Set.univ (pSendWait D h) fun _ => wp frame (wpE (defs₀ (F := F)) 𝒱₀ (c : Thread nD τ) none) Set.univ (pRecvWait D h) Q) := by
  subst hE
  unfold hopP midP posn
  have hN := HN_le D
  iintro ⟨#HR, HO, ⟨⟨Hp, HS1, HS2⟩, ⟨Hq, HV1, HV2⟩, Ht, HcS, HcV⟩⟩ Hk
  unfold pSendWait pRecvWait
  iapply (wait_spec m K D false h 0 hh (by omega) c (slotM D (sl h)) (srcM D h) (slotM_word D (sl h)) (srcM_word D h) (srcM_credit D h) O
    (fun g u hg => ⟨(hO g u hg).1, by have := (hO g u hg).2.1; omega, (hO g u hg).2.2⟩) _) $$ [HO HcS Hp]
  · isplitr; · iexact HR
    isplitl [HO]; · iexact HO
    isplitl [HcS]; · iexact HcS
    iexact Hp
  iintro ⟨HO, HS3, Hs⟩
  ihave Hs := (Entails.of_eq (show hopPay m D false h c = heldM m c (srcM D h) (shr D h) (blk m (org D c h)) from rfl)) $$ Hs
  iapply (wait_spec m K D true h (h + 2) hh (by omega) c (srcM D h) (slotM D (sl h)) (srcM_word D h) (slotM_word D (sl h)) (slotM_credit D (sl h)) O hO _) $$ [HO HcV Hq]
  · isplitr; · iexact HR
    isplitl [HO]; · iexact HO
    isplitl [HcV]; · iexact HcV
    iexact Hq
  iintro ⟨HO, HV3, Hv⟩
  iapply Hk
  isplitl [HO]; · iexact HO
  isplitl [HS1 HS2 HS3 HV1 HV2 HV3 Ht]
  · isplitl [HS1 HS2 HS3]
    · isplitl [HS1]; · iexact HS1
      isplitl [HS2]; · iexact HS2
      iexact HS3
    isplitl [HV1 HV2 HV3]
    · isplitl [HV1]; · iexact HV1
      isplitl [HV2]; · iexact HV2
      iexact HV3
    iexact Ht
  isplitl [Hs]; · iexact Hs
  ihave Hv := (Entails.of_eq (show hopPay m D true h c
    = iprop(heldM m c (slotM D (sl h)) fullShare (blk m (org D c (h + 1))) ∗ grantIf (!D) (h + 1) c) from rfl)) $$ Hv
  icases Hv with ⟨Hv, Hg⟩
  isplitl [Hv]; · iexact Hv
  iexact Hg

/-! ## The devices and the rows an iteration names -/

theorem devF_eq (c : Dev nD) (j : Fin 16) : devF c j = dst true c := by
  fin_cases j <;> exact Fin.ext (by
    first
      | exact k0_dev3_eq c | exact k0_dev5_eq c | exact k0_dev7_eq c | exact k0_dev9_eq c | exact k0_dev11_eq c | exact k0_dev13_eq c
      | exact k0_dev15_eq c | exact k0_dev17_eq c | exact k0_dev19_eq c | exact k0_dev21_eq c | exact k0_dev23_eq c | exact k0_dev25_eq c
      | exact k0_dev27_eq c | exact k0_dev29_eq c | exact k0_dev31_eq c | exact k0_dev33_eq c)

theorem devB_eq (c : Dev nD) (j : Fin 15) : devB c j = dst false c := by
  fin_cases j <;> exact Fin.ext (by
    first
      | exact k0_dev4_eq c | exact k0_dev6_eq c | exact k0_dev8_eq c | exact k0_dev10_eq c | exact k0_dev12_eq c | exact k0_dev14_eq c
      | exact k0_dev16_eq c | exact k0_dev18_eq c | exact k0_dev20_eq c | exact k0_dev22_eq c | exact k0_dev24_eq c | exact k0_dev26_eq c
      | exact k0_dev28_eq c | exact k0_dev30_eq c | exact k0_dev32_eq c)

theorem off2_org (c : Dev nD) (r : Fin 16) : k0_off2 c (BitVec.ofNat 32 (1 + r.val)) = ![128 * (org true c (r.val + 1)).val, 0] := by
  have hc : c.val < 32 := c.isLt
  have hr := r.isLt
  rw [k0_off2_eq c r]
  congr 2
  simp only [org]; omega

theorem off3_org (c : Dev nD) (r : Fin 15) : k0_off3 c (BitVec.ofNat 32 (1 + r.val)) = ![128 * (org false c (r.val + 1)).val, 0] := by
  rw [k0_off3_eq c r]
  congr 2

/-- The blocks stored when iteration `h` starts. -/
def cov (c : Dev nD) (h : ℕ) (e : Dev nD) : Prop := ∃ j, j < h ∧ (e = org true c j ∨ e = org false c j)

theorem cov_step (c : Dev nD) (h : ℕ) (e : Dev nD) (he : cov c (h + 1) e) : (cov c h e ∨ e = org true c h) ∨ e = org false c h := by
  obtain ⟨j, hj, hj'⟩ := he
  rcases Nat.lt_succ_iff_lt_or_eq.mp hj with h1 | rfl
  · exact Or.inl (Or.inl ⟨j, h1, hj'⟩)
  · rcases hj' with h2 | h2
    · exact Or.inl (Or.inr h2)
    · exact Or.inr h2

/-! ## An iteration -/

/-- One direction at the start of iteration `h`. -/
def dirS (D : Bool) (h : ℕ) (c : Dev nD) : sProp 𝕄 :=
  iprop(hopP D h c ∗ grantIf D h c ∗ freeM c (slotM D (sl (h + 1))) ∗ keep D h c ∗ heldM m c (srcM D h) fullShare (blk m (org D c h)))

/-- Everything at the start of iteration `h`. -/
def loopS (h : ℕ) (c : Dev nD) : sProp 𝕄 :=
  iprop(owesE c (OD true h c + OD false h c) ∗ dirS m true h c ∗ dirS m false h c ∗ outS m c (cov c h))

/-- A direction that has its hop `h` still to make. -/
theorem dirS_open (D : Bool) (h : ℕ) (hh : h < HN D) (c : Dev nD) :
    dirS m D h c ⊢ iprop(hopP D h c ∗ grant D h c ∗ freeM c (slotM D (sl (h + 1))) ∗ heldM m c (srcM D h) fullShare (blk m (org D c h))) := by
  unfold dirS
  rw [show grantIf (F := F) D h c = grant D h c from if_pos hh]
  iintro ⟨Hp, Hg, Hf, -, Hh⟩
  isplitl [Hp]; · iexact Hp
  isplitl [Hg]; · iexact Hg
  isplitl [Hf]; · iexact Hf
  iexact Hh

/-- A direction after its hop `r + 1` is waited for. -/
theorem dirS_next (D : Bool) (r : ℕ) (c : Dev nD) :
    iprop(hopP D (r + 2) c ∗ grantIf D (r + 2) c ∗ keep D (r + 2) c
        ∗ heldM m c (srcM D (r + 1)) fullShare.left (blk m (org D c (r + 1))) ∗ heldM m c (srcM D (r + 1)) fullShare.right (blk m (org D c (r + 1)))
        ∗ heldM m c (srcM D (r + 2)) fullShare (blk m (org D c (r + 2))))
      ⊢ dirS m D (r + 2) c := by
  unfold dirS
  iintro ⟨Hp, Hg, Hk, Hl, Hr, Hh⟩
  isplitl [Hp]; · iexact Hp
  isplitl [Hg]; · iexact Hg
  isplitl [Hl Hr]
  · rw [show r + 2 + 1 = r + 3 from rfl, sl_add3]
    iapply (heldM_free m c (slotM D (sl r)) (blk m (org D c (r + 1))))
    iapply (heldM_share m c (slotM D (sl r)) (blk m (org D c (r + 1))) fullShare).2
    isplitl [Hl]; · iexact Hl
    iexact Hr
  isplitl [Hk]; · iexact Hk
  iexact Hh

/-- What an iteration of the fourteen does. -/
theorem iter_spec (K : Dev nD × Ck → ℕ) (c : Dev nD) (r : Fin 14) (Q : PUnit → sProp 𝕄) :
    iprop(records m K ∗ loopS m (r.val + 1) c) ⊢ iprop((loopS m (r.val + 2) c -∗ Q ⟨⟩) -∗ wp frame (wpE (defs₀ (F := F)) 𝒱₀ (c : Thread nD τ) none) Set.univ (pIter c (w16 m c) r) Q) := by
  obtain ⟨r, hr⟩ := r
  have hr16 : r < 16 := by omega
  have hr15 : r < 15 := by omega
  have hT : r + 1 < HN true := by show r + 1 < 16; omega
  have hB : r + 1 < HN false := by show r + 1 < 15; omega
  unfold loopS pIter pWaits
  simp only [wp_bind]
  iintro ⟨#HR, HO, HT, HB, Hout⟩ Hk
  ihave HT := (dirS_open m true (r + 1) hT c) $$ HT
  ihave HB := (dirS_open m false (r + 1) hB c) $$ HB
  icases HT with ⟨HpT, HgT, HfT, HhT⟩
  icases HB with ⟨HpB, HgB, HfB, HhB⟩
  ihave HpT := (hopP_next true (r + 1) c) $$ HpT
  ihave HpB := (hopP_next false (r + 1) c) $$ HpB
  icases HpT with ⟨HpT, HrT⟩
  icases HpB with ⟨HpB, HrB⟩
  ihave HnB := (give true false rfl (r + 1) c) $$ [HfB HrB]
  · isplitl [HfB] <;> iassumption
  ihave HnT := (give false true rfl (r + 1) c) $$ [HfT HrT]
  · isplitl [HfT] <;> iassumption
  icases HnB with ⟨HnB, HkB⟩
  icases HnT with ⟨HnT, HkT⟩
  ihave HhT := (heldM_share m c (srcM true (r + 1)) (blk m (org true c (r + 1))) fullShare).1 $$ HhT
  ihave HhB := (heldM_share m c (srcM false (r + 1)) (blk m (org false c (r + 1))) fullShare).1 $$ HhB
  icases HhT with ⟨HlT, HhT⟩
  icases HhB with ⟨HlB, HhB⟩
  iapply (start_hop m K true false rfl (r + 1) hT c _ (devF_eq c _) (OD true (r + 1) c + OD false (r + 1) c) (OD true (r + 2) c + OD false (r + 1) c)
    (by rw [OD_step true (r + 1) c hT, add_right_comm]) _) $$ [HO HpT HgT HlT HnB]
  · isplitr; · iexact HR
    isplitl [HO]; · iexact HO
    isplitl [HpT]; · iexact HpT
    isplitl [HgT]; · iexact HgT
    isplitl [HlT]; · iexact HlT
    iexact HnB
  iintro ⟨HO, HmT⟩
  iapply (start_hop m K false true rfl (r + 1) hB c _ (devB_eq c _) (OD true (r + 2) c + OD false (r + 1) c) (OD true (r + 2) c + OD false (r + 2) c)
    (by rw [OD_step false (r + 1) c hB, ← add_assoc]) _) $$ [HO HpB HgB HlB HnT]
  · isplitr; · iexact HR
    isplitl [HO]; · iexact HO
    isplitl [HpB]; · iexact HpB
    isplitl [HgB]; · iexact HgB
    isplitl [HlB]; · iexact HlB
    iexact HnT
  iintro ⟨HO, HmB⟩
  iapply (gemm_spec m c (org true c (r + 1)) true (sl r) fullShare.right _ _ (off2_org c ⟨r, hr16⟩) (cov c (r + 1))
    (fun e => cov c (r + 1) e ∨ e = org true c (r + 1)) (fun e h => h) _) $$ [HhT Hout]
  · isplitl [HhT]; · iexact HhT
    iexact Hout
  iintro ⟨HhT, Hout⟩
  iapply (gemm_spec m c (org false c (r + 1)) false (sl r) fullShare.right _ _ (off3_org c ⟨r, hr15⟩) (fun e => cov c (r + 1) e ∨ e = org true c (r + 1))
    (cov c (r + 2)) (fun e h => cov_step c (r + 1) e h) _) $$ [HhB Hout]
  · isplitl [HhB]; · iexact HhB
    iexact Hout
  iintro ⟨HhB, Hout⟩
  have hA : Above (r + 1 + 2) (OD true (r + 2) c + OD false (r + 2) c) := (above_OD true _ _ c (by omega)).add (above_OD false _ _ c (by omega))
  iapply (wait_hop m K true false rfl (r + 1) hT c _ hA _) $$ [HO HmT]
  · isplitr; · iexact HR
    isplitl [HO]; · iexact HO
    iexact HmT
  iintro ⟨HO, HpT, HlT, HvT, HgB⟩
  iapply (wait_hop m K false true rfl (r + 1) hB c _ hA _) $$ [HO HmB]
  · isplitr; · iexact HR
    isplitl [HO]; · iexact HO
    iexact HmB
  iintro ⟨HO, HpB, HlB, HvB, HgT⟩
  iapply Hk
  isplitl [HO]; · iexact HO
  isplitl [HpT HgT HkT HlT HhT HvT]
  · iapply (dirS_next m true r c)
    isplitl [HpT]; · iexact HpT
    isplitl [HgT]; · iexact HgT
    isplitl [HkT]; · iexact HkT
    isplitl [HlT]; · iexact HlT
    isplitl [HhT]; · iexact HhT
    iexact HvT
  isplitl [HpB HgB HkB HlB HhB HvB]
  · iapply (dirS_next m false r c)
    isplitl [HpB]; · iexact HpB
    isplitl [HgB]; · iexact HgB
    isplitl [HkB]; · iexact HkB
    isplitl [HlB]; · iexact HlB
    isplitl [HhB]; · iexact HhB
    iexact HvB
  iexact Hout

/-- The fourteen iterations. -/
theorem loop_spec (K : Dev nD × Ck → ℕ) (c : Dev nD) (Q : PUnit → sProp 𝕄) : ∀ (n : ℕ) (hn : n ≤ 14),
    iprop(records m K ∗ loopS m (15 - n) c) ⊢ iprop((loopS m 15 c -∗ Q ⟨⟩) -∗ wp frame (wpE (defs₀ (F := F)) 𝒱₀ (c : Thread nD τ) none) Set.univ (pLoop c (w16 m c) n hn) Q)
  | 0, hn => by
    unfold pLoop
    iintro ⟨-, H⟩ Hk
    simp only [Prog.pure_eq_ret, wp_ret]; imodintro
    iapply Hk; iexact H
  | n + 1, hn => by
    unfold pLoop
    rw [wp_bind]
    iintro ⟨#HR, H⟩ Hk
    have h3 : 14 - (n + 1) < 14 := by omega
    have h1 : 15 - (n + 1) = 14 - (n + 1) + 1 := by omega
    have h2 : 14 - (n + 1) + 2 = 15 - n := by omega
    rw [h1]
    iapply (iter_spec m K c ⟨14 - (n + 1), h3⟩ _) $$ [H]
    · isplitr; · iexact HR
      iexact H
    rw [h2]
    iintro H
    iapply (loop_spec K c Q n (Nat.le_of_succ_le hn)) $$ [H]
    · isplitr; · iexact HR
      iexact H
    iexact Hk

end Cert.RingProof

end
-- ==== Proof.Body.lean ====
/-
# The body

The steps outside the fourteen iterations: the meeting of the neighbours at the start, the casts, the first and the
last iteration; then the body from end to end.
-/
module

public import proofs.«01_k».proof.Proof.Hops
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The staged block -/

omit [FloatOps F] in
theorem off00 : (![0, 0] : Fin 2 → ℕ) = fun _ => 0 := by funext a; fin_cases a <;> rfl

omit [FloatOps F] in
/-- The cast buffer held at `v`: its whole contents are `v`. -/
theorem heldM_stage (c : Dev nD) (q : PosShare TreeShare) (v : FVec F S128x4096 .bf16) :
    heldM m c sM q v = ((c : Thread nD τ).loc cc0_scratch0 ↦{q} v : sProp 𝕄) := by
  unfold heldM
  rw [show (sM : Memref sig .tc .vmem S128x4096 .bf16).view.set = Finset.univ from View.set_whole _]
  refine congrArg (fun f => ((c : Thread nD τ).loc cc0_scratch0 ↦{q} f : sProp 𝕄)) ?_
  exact (View.read_write_univ (Val := Elt F) (v := (sM : Memref sig .tc .vmem S128x4096 .bf16).view) _ v)

omit [FloatOps F] in
theorem freeM_stage (c : Dev nD) :
    freeM c sM = (iprop(∃ f : Buf (Elt F) ((c : Thread nD τ).loc cc0_scratch0), (c : Thread nD τ).loc cc0_scratch0 ↦{fullShare} f) : sProp 𝕄) := by
  unfold freeM
  rw [show (sM : Memref sig .tc .vmem S128x4096 .bf16).view.set = Finset.univ from View.set_whole _]

/-- Multiplying the device's own block. -/
theorem gemm0_spec (c : Dev nD) (q : PosShare TreeShare) (Q : PUnit → sProp 𝕄) :
    iprop(heldM m c sM q (blk m c) ∗ outS m c (fun _ => False))
      ⊢ iprop(((heldM m c sM q (blk m c) ∗ outS m c (cov c 1)) -∗ Q ⟨⟩) -∗ wp frame (wpE (defs₀ (F := F)) 𝒱₀ (c : Thread nD τ) none) Set.univ (pGemm0 c (w16 m c)) Q) := by
  rw [heldM_stage]; unfold pGemm0
  simp only [Prog.lift, Prog.bind_op, Prog.bind_ret, Prog.pure_eq_ret]
  iintro ⟨Hs, Ho⟩ Hk
  iapply (wp_load 𝒱₀ (c : Thread nD τ) none Set.univ (m := sM) (Finset.subset_univ _)) $$ Hs; iintro Hs
  have hv : (sM : Memref sig .tc .vmem S128x4096 .bf16).view.readAt (Elt F) rectX.toLoadRect (blk m c) = blk m c :=
    Memref.readAt_unit_zero (Elt F) cc0_scratch0 off00 _ (blk m c)
  iapply (put_spec m c c _ (k0_off1_inb c) (k0_off1_eq c) _ (congrArg (k0_pay4 (w16 m c)) hv) (fun _ => False) (cov c 1)
    (fun e he => by
      obtain ⟨j, hj, he⟩ := he
      have hj0 : j = 0 := by omega
      subst hj0
      rw [org_zero, org_zero, or_self] at he
      exact Or.inr he) Q) $$ Ho
  iintro Ho
  iapply Hk
  isplitl [Hs]; · iexact Hs
  iexact Ho

/-- The casts. -/
theorem cast_spec (c : Dev nD) (Q : FVec F S4096x64 .bf16 → sProp 𝕄) :
    iprop(((c : Thread nD τ).loc cc0_stg0_0 ↦{fullShare} xstg m c) ∗ ((c : Thread nD τ).loc cc0_stg1_0 ↦{fullShare} wstg m c) ∗ freeM c sM)
      ⊢ iprop(((((c : Thread nD τ).loc cc0_stg0_0 ↦{fullShare} xstg m c) ∗ ((c : Thread nD τ).loc cc0_stg1_0 ↦{fullShare} wstg m c)
          ∗ heldM m c sM fullShare (blk m c)) -∗ Q (w16 m c)) -∗ wp frame (wpE (defs₀ (F := F)) 𝒱₀ (c : Thread nD τ) none) Set.univ pCast Q) := by
  rw [heldM_stage, freeM_stage]; unfold pCast
  simp only [Prog.lift, Prog.bind_op, Prog.bind_ret, Prog.pure_eq_ret]
  iintro ⟨Hx, Hw, %f, Hs⟩ Hk
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM) (r := rectX) (Mk := Finset.univ) (Finset.subset_univ _)) $$ Hs; iintro Hs
  iapply (wp_load 𝒱₀ (c : Thread nD τ) none Set.univ (m := wM) (Finset.subset_univ _)) $$ Hw; iintro Hw
  have hx : (xM : Memref sig .tc .vmem S128x4096 .f32).view.readAt (Elt F) rectX.toLoadRect (xstg m c) = xstg m c :=
    Memref.readAt_unit_zero (Elt F) cc0_stg0_0 off00 _ (xstg m c)
  have hw : (wM : Memref sig .tc .vmem S4096x64 .f32).view.readAt (Elt F) rectW.toLoadRect (wstg m c) = wstg m c :=
    Memref.readAt_unit_zero (Elt F) cc0_stg1_0 off00 _ (wstg m c)
  have hs : ((sM : Memref sig .tc .vmem S128x4096 .bf16).access rectX : View sig .tc _ _ _).write (Elt F) f
      (k0_pay2 ((xM : Memref sig .tc .vmem S128x4096 .f32).view.readAt (Elt F) rectX.toLoadRect (xstg m c))) Finset.univ = blk m c := by
    rw [hx]; exact Memref.write_access_unit_zero_univ (Elt F) cc0_scratch0 off00 _ f (blk m c)
  rw [hs, hw, show k0_pay3 (wstg m c) = w16 m c from rfl, wp_ret]; imodintro
  iapply Hk
  isplitl [Hx]; · iexact Hx
  isplitl [Hw]; · iexact Hw
  iexact Hs

/-! ## The meeting -/

/-- What a device needs for the meeting: the two duties it pays, the credit and the position it waits with. -/
def meetTok (c : Dev nD) : sProp 𝕄 :=
  iprop(dutyTok ER (barCell (dst false c)) 0 true ∗ dutyTok ER (barCell (dst true c)) 0 false
    ∗ cred (tallyAt (barCell c) 1 2) ∗ atPos ER (barCell c) 0 ∅ 0)

/-- One of the two signals. -/
theorem signal_spec (K : Dev nD × Ck → ℕ) (D : Bool) (c n : Dev nD) (hn : n = dst (!D) c) (O : CellTallies nD τ sig ℕ) (Q : PUnit → sProp 𝕄) :
    iprop(records m K ∗ owesE c (O + tallyAt (barCell (dst (!D) c)) 1 1) ∗ dutyTok ER (barCell (dst (!D) c)) 0 D ∗ freeM c (slotM D (sl 0)))
      ⊢ iprop((owesE c O -∗ Q ⟨⟩) -∗ wp frame (wpE (defs₀ (F := F)) 𝒱₀ (c : Thread nD τ) none) Set.univ (semSignalWord n barS 1#32) Q) := by
  subst hn
  unfold owesE
  simp only [semSignalWord, Prog.lift, Prog.bind_op, Prog.bind_ret, Prog.pure_eq_ret]
  iintro ⟨#HR, ⟨%W, HO⟩, Ht, Hf⟩ Hk
  iapply (Rounds.wp_signal 𝒱₀ ER (ringRd m) (c : Thread nD τ) none (dst := (dst (!D) c : Thread nD τ)) (κ := K (dst (!D) c, none))
      (d := D) (by rw [duties_bar]; exact Finset.mem_univ _) ((amount_bar m (dst (!D) c) 0 D).trans (by decide)) 1 O rfl)
    $$ [HO Ht Hf]
  · isplitr; · iapply (inv_bar m K (dst (!D) c)); iexact HR
    isplitl [HO]; · iexact HO
    isplitl [Ht]; · iexact Ht
    isplitl [Hf]
    · rw [payload_bar]; unfold grant; rw [dst_dst']
      isplitl [Hf]; · iexact Hf
      iapply (reached_hop m K D true 0 (by decide) c); iexact HR
    iapply (reached_bar m K (dst (!D) c)); iexact HR
  iintro HO
  rw [wp_ret]; imodintro
  iapply Hk
  iexists W; iexact HO

theorem meet_spec (K : Dev nD × Ck → ℕ) (c : Dev nD) (Q : PUnit → sProp 𝕄) :
    iprop(records m K ∗ owesE c (O₀ c) ∗ meetTok c ∗ freeM c (slotM true (sl 0)) ∗ freeM c (slotM false (sl 0)))
      ⊢ iprop(((owesE c (O₁ c) ∗ atPos ER (barCell c) 1 ∅ 0 ∗ grant true 0 c ∗ grant false 0 c) -∗ Q ⟨⟩) -∗ wp frame (wpE (defs₀ (F := F)) 𝒱₀ (c : Thread nD τ) none) Set.univ (pMeet c) Q) := by
  unfold pMeet meetTok
  simp only [wp_bind]
  iintro ⟨#HR, HO, ⟨HtT, HtB, Hc, Hat⟩, HfT, HfB⟩ Hk
  have e1 : O₀ c = (O₁ c + tallyAt (barCell (dst true c)) 1 1) + tallyAt (barCell (dst false c)) 1 1 := rfl
  rw [e1]
  iapply (signal_spec m K true c _ (Fin.ext (k0_dev1_eq c)) (O₁ c + tallyAt (barCell (dst true c)) 1 1) _) $$ [HO HtT HfT]
  · isplitr; · iexact HR
    isplitl [HO]; · iexact HO
    isplitl [HtT]; · iexact HtT
    iexact HfT
  iintro HO
  iapply (signal_spec m K false c _ (Fin.ext (k0_dev2_eq c)) (O₁ c) _) $$ [HO HtB HfB]
  · isplitr; · iexact HR
    isplitl [HO]; · iexact HO
    isplitl [HtB]; · iexact HtB
    iexact HfB
  iintro HO
  unfold owesE
  icases HO with ⟨%W, HO⟩
  have hmw : records m K ⊢ MayWait (c : Thread nD τ) (.reg barS) 1 (O₁ c) :=
    records_mayWait m K c _ 1 (by decide) _ ((above_OD true 0 1 c (by decide)).add (above_OD false 0 1 c (by decide)))
  simp only [semWaitWord, Prog.lift, Prog.bind_op, Prog.bind_ret, Prog.pure_eq_ret]
  iapply (Rounds.wp_wait_rest_token 𝒱₀ ER (ringRd m) (c : Thread nD τ) none (κ := K (c, none))
      (wpE_semWait_eq 𝒱₀ (c : Thread nD τ) none Set.univ) (Set.mem_univ _) 1 (O := O₁ c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply hmw; iexact HR
    iexact Hat
  iintro ⟨HO, Hat, -, Hpay⟩
  ihave Hpay := (Entails.of_eq (rest_bar m c)) $$ Hpay
  icases Hpay with ⟨HgT, HgB⟩
  rw [wp_ret]; imodintro
  iapply Hk
  isplitl [HO]; · iexists _; iexact HO
  isplitl [Hat]; · iexact Hat
  isplitl [HgT] <;> iassumption

/-! ## The first iteration -/

/-- A direction before its first hop. -/
def dir0 (D : Bool) (c : Dev nD) : sProp 𝕄 :=
  iprop(hopP D 0 c ∗ grant D 0 c ∗ freeM c (slotM D (sl 1)) ∗ freeM c (slotM D (sl 2)))

theorem first_spec (K : Dev nD × Ck → ℕ) (c : Dev nD) (Q : PUnit → sProp 𝕄) :
    iprop(records m K ∗ owesE c (O₁ c) ∗ dir0 true c ∗ dir0 false c ∗ heldM m c sM fullShare (blk m c) ∗ outS m c (fun _ => False))
      ⊢ iprop(((loopS m 1 c ∗ freeM c sM) -∗ Q ⟨⟩) -∗ wp frame (wpE (defs₀ (F := F)) 𝒱₀ (c : Thread nD τ) none) Set.univ (pFirst c (w16 m c)) Q) := by
  have hT : 0 < HN true := by decide
  have hB : 0 < HN false := by decide
  have eT : heldM m c (srcM true 0) (shr true 0) (blk m (org true c 0)) = heldM (F := F) m c sM fullShare.left (blk m c) := by rw [org_zero]; rfl
  have eB : heldM m c (srcM false 0) (shr false 0) (blk m (org false c 0)) = heldM (F := F) m c sM fullShare.right.left (blk m c) := by rw [org_zero]; rfl
  unfold loopS pFirst pWaits dir0
  simp only [wp_bind]
  iintro ⟨#HR, HO, ⟨HpT, HgT, HfT, HeT⟩, ⟨HpB, HgB, HfB, HeB⟩, Hs, Hout⟩ Hk
  ihave HpT := (hopP_next true 0 c) $$ HpT
  ihave HpB := (hopP_next false 0 c) $$ HpB
  icases HpT with ⟨HpT, HrT⟩
  icases HpB with ⟨HpB, HrB⟩
  ihave HnB := (give true false rfl 0 c) $$ [HfB HrB]
  · isplitl [HfB] <;> iassumption
  ihave HnT := (give false true rfl 0 c) $$ [HfT HrT]
  · isplitl [HfT] <;> iassumption
  icases HnB with ⟨HnB, HkB⟩
  icases HnT with ⟨HnT, HkT⟩
  ihave Hs := (heldM_share m c sM (blk m c) fullShare).1 $$ Hs
  icases Hs with ⟨HsT, Hs⟩
  ihave Hs := (heldM_share m c sM (blk m c) fullShare.right).1 $$ Hs
  icases Hs with ⟨HsB, Hs⟩
  ihave HsT := (Entails.of_eq eT.symm) $$ HsT
  ihave HsB := (Entails.of_eq eB.symm) $$ HsB
  iapply (start_hop m K true false rfl 0 hT c _ (devF_eq c _) (O₁ c) (OD true 1 c + OD false 0 c)
    (by unfold O₁; rw [OD_step true 0 c hT, add_right_comm]) _) $$ [HO HpT HgT HsT HnB]
  · isplitr; · iexact HR
    isplitl [HO]; · iexact HO
    isplitl [HpT]; · iexact HpT
    isplitl [HgT]; · iexact HgT
    isplitl [HsT]; · iexact HsT
    iexact HnB
  iintro ⟨HO, HmT⟩
  iapply (start_hop m K false true rfl 0 hB c _ (devB_eq c _) (OD true 1 c + OD false 0 c) (OD true 1 c + OD false 1 c)
    (by rw [OD_step false 0 c hB, ← add_assoc]) _) $$ [HO HpB HgB HsB HnT]
  · isplitr; · iexact HR
    isplitl [HO]; · iexact HO
    isplitl [HpB]; · iexact HpB
    isplitl [HgB]; · iexact HgB
    isplitl [HsB]; · iexact HsB
    iexact HnT
  iintro ⟨HO, HmB⟩
  iapply (gemm0_spec m c fullShare.right.right _) $$ [Hs Hout]
  · isplitl [Hs]; · iexact Hs
    iexact Hout
  iintro ⟨Hs, Hout⟩
  have hA : Above (0 + 2) (OD true 1 c + OD false 1 c) := (above_OD true _ _ c (by omega)).add (above_OD false _ _ c (by omega))
  iapply (wait_hop m K true false rfl 0 hT c _ hA _) $$ [HO HmT]
  · isplitr; · iexact HR
    isplitl [HO]; · iexact HO
    iexact HmT
  iintro ⟨HO, HpT, HsT, HvT, HgB⟩
  iapply (wait_hop m K false true rfl 0 hB c _ hA _) $$ [HO HmB]
  · isplitr; · iexact HR
    isplitl [HO]; · iexact HO
    iexact HmB
  iintro ⟨HO, HpB, HsB, HvB, HgT⟩
  ihave HsT := (Entails.of_eq eT) $$ HsT
  ihave HsB := (Entails.of_eq eB) $$ HsB
  iapply Hk
  isplitr [HsT HsB Hs]
  · isplitl [HO]; · iexact HO
    isplitl [HpT HgT HeT HkT HvT]
    · unfold dirS
      isplitl [HpT]; · iexact HpT
      isplitl [HgT]; · iexact HgT
      isplitl [HeT]; · iexact HeT
      isplitl [HkT]; · iexact HkT
      iexact HvT
    isplitl [HpB HgB HeB HkB HvB]
    · unfold dirS
      isplitl [HpB]; · iexact HpB
      isplitl [HgB]; · iexact HgB
      isplitl [HeB]; · iexact HeB
      isplitl [HkB]; · iexact HkB
      iexact HvB
    iexact Hout
  iapply (heldM_free m c sM (blk m c))
  iapply (heldM_share m c sM (blk m c) fullShare).2
  isplitl [HsT]; · iexact HsT
  iapply (heldM_share m c sM (blk m c) fullShare.right).2
  isplitl [HsB]; · iexact HsB
  iexact Hs

/-! ## The last iteration -/

/-- A direction after its last hop. -/
def dirE (D : Bool) (c : Dev nD) : sProp 𝕄 :=
  iprop(hopP D (HN D) c ∗ freeM c (slotM D (sl 14)) ∗ freeM c (slotM D (sl 15)) ∗ freeM c (slotM D (sl 16)))

/-- Every block is some hop's. -/
theorem cov_all (c e : Dev nD) : ((cov c 15 e ∨ e = org true c 15) ∨ e = org false c 15) ∨ e = org true c 16 := by
  have hc : c.val < 32 := c.isLt
  have he : e.val < 32 := e.isLt
  by_cases h : (c.val + 32 - e.val) % 32 ≤ 16
  · have hj : e = org true c ((c.val + 32 - e.val) % 32) := Fin.ext (by simp only [org]; omega)
    rcases Nat.lt_or_ge ((c.val + 32 - e.val) % 32) 15 with h1 | h1
    · exact Or.inl (Or.inl (Or.inl ⟨_, h1, Or.inl hj⟩))
    · rcases Nat.lt_or_ge ((c.val + 32 - e.val) % 32) 16 with h2 | h2
      · refine Or.inl (Or.inl (Or.inr (hj.trans ?_))); congr 1; omega
      · refine Or.inr (hj.trans ?_); congr 1; omega
  · have hj : e = org false c ((e.val + 32 - c.val) % 32) := Fin.ext (by simp only [org]; omega)
    rcases Nat.lt_or_ge ((e.val + 32 - c.val) % 32) 15 with h1 | h1
    · exact Or.inl (Or.inl (Or.inl ⟨_, h1, Or.inr hj⟩))
    · refine Or.inl (Or.inr (hj.trans ?_)); congr 1; omega

theorem last_spec (K : Dev nD × Ck → ℕ) (c : Dev nD) (Q : PUnit → sProp 𝕄) :
    iprop(records m K ∗ loopS m 15 c)
      ⊢ iprop(((owesE c 0 ∗ dirE true c ∗ dirE false c ∗ outS m c (fun _ => True)) -∗ Q ⟨⟩) -∗ wp frame (wpE (defs₀ (F := F)) 𝒱₀ (c : Thread nD τ) none) Set.univ (pLast c (w16 m c)) Q) := by
  have hT : 15 < HN true := by decide
  have hE : OD true 16 c + OD false 15 c = 0 := by rw [OD_end true 16 c (le_refl _), OD_end false 15 c (le_refl _), add_zero]
  unfold loopS pLast
  simp only [wp_bind]
  iintro ⟨#HR, HO, HT, HB, Hout⟩ Hk
  ihave HT := (dirS_open m true 15 hT c) $$ HT
  unfold dirS
  icases HT with ⟨HpT, HgT, HfT, HhT⟩
  icases HB with ⟨HpB, -, HfB, HkB, HhB⟩
  ihave HhT := (heldM_share m c (srcM true 15) (blk m (org true c 15)) fullShare).1 $$ HhT
  icases HhT with ⟨HlT, HhT⟩
  iapply (start_hop m K true false rfl 15 hT c _ (devF_eq c _) (OD true 15 c + OD false 15 c) 0
    (by rw [OD_step true 15 c hT, add_right_comm, hE]) _) $$ [HO HpT HgT HlT]
  · isplitr; · iexact HR
    isplitl [HO]; · iexact HO
    isplitl [HpT]; · iexact HpT
    isplitl [HgT]; · iexact HgT
    isplitl [HlT]; · iexact HlT
    rw [show grantIf (F := F) false (15 + 1) (dst true c) = iprop(emp) from if_neg (by decide)]
    iempintro
  iintro ⟨HO, HmT⟩
  iapply (gemm_spec m c (org true c 15) true (sl 14) fullShare.right _ _ (off2_org c 14) (cov c 15)
    (fun e => cov c 15 e ∨ e = org true c 15) (fun e h => h) _) $$ [HhT Hout]
  · isplitl [HhT]; · iexact HhT
    iexact Hout
  iintro ⟨HhT, Hout⟩
  iapply (gemm_spec m c (org false c 15) false (sl 14) fullShare _ _ (off3_org c 14) (fun e => cov c 15 e ∨ e = org true c 15)
    (fun e => (cov c 15 e ∨ e = org true c 15) ∨ e = org false c 15) (fun e h => h) _) $$ [HhB Hout]
  · isplitl [HhB]; · iexact HhB
    iexact Hout
  iintro ⟨HhB, Hout⟩
  iapply (wait_hop m K true false rfl 15 hT c _ (Above.zero _) _) $$ [HO HmT]
  · isplitr; · iexact HR
    isplitl [HO]; · iexact HO
    iexact HmT
  iintro ⟨HO, HpT, HlT, HvT, -⟩
  iapply (gemm_spec m c (org true c 16) true (sl 15) fullShare _ _ (off2_org c 15) (fun e => (cov c 15 e ∨ e = org true c 15) ∨ e = org false c 15)
    (fun _ => True) (fun e _ => cov_all c e) _) $$ [HvT Hout]
  · isplitl [HvT]; · iexact HvT
    iexact Hout
  iintro ⟨HvT, Hout⟩
  iapply Hk
  isplitl [HO]; · iexact HO
  isplitl [HpT HlT HhT HvT HfT]
  · unfold dirE
    isplitl [HpT]; · iexact HpT
    isplitl [HlT HhT]
    · iapply (heldM_free m c (slotM true (sl 14)) (blk m (org true c 15)))
      iapply (heldM_share m c (slotM true (sl 14)) (blk m (org true c 15)) fullShare).2
      isplitl [HlT]; · iexact HlT
      iexact HhT
    isplitl [HvT]
    · iapply (heldM_free m c (slotM true (sl 15)) (blk m (org true c 16))); iexact HvT
    iexact HfT
  isplitl [HpB HhB HkB HfB]
  · unfold dirE
    isplitl [HpB]; · iexact HpB
    isplitl [HhB]
    · iapply (heldM_free m c (slotM false (sl 14)) (blk m (org false c 15))); iexact HhB
    isplitl [HkB]
    · ihave HkB := (Entails.of_eq (show keep (F := F) false 15 c = freeM c (slotM false (sl 15)) from if_neg (by decide))) $$ HkB
      iexact HkB
    iexact HfB
  iexact Hout

/-! ## The body -/

/-- What a device starts with. -/
def startS (c : Dev nD) : sProp 𝕄 :=
  iprop(owesE c (O₀ c) ∗ meetTok c
    ∗ (hopP true 0 c ∗ freeM c (slotM true (sl 0)) ∗ freeM c (slotM true (sl 1)) ∗ freeM c (slotM true (sl 2)))
    ∗ (hopP false 0 c ∗ freeM c (slotM false (sl 0)) ∗ freeM c (slotM false (sl 1)) ∗ freeM c (slotM false (sl 2)))
    ∗ freeM c sM ∗ ((c : Thread nD τ).loc cc0_stg0_0 ↦{fullShare} xstg m c) ∗ ((c : Thread nD τ).loc cc0_stg1_0 ↦{fullShare} wstg m c)
    ∗ outS m c (fun _ => False))

/-- What it ends with. -/
def endS (c : Dev nD) : sProp 𝕄 :=
  iprop(owesE c 0 ∗ atPos ER (barCell c) 1 ∅ 0 ∗ dirE true c ∗ dirE false c
    ∗ freeM c sM ∗ ((c : Thread nD τ).loc cc0_stg0_0 ↦{fullShare} xstg m c) ∗ ((c : Thread nD τ).loc cc0_stg1_0 ↦{fullShare} wstg m c)
    ∗ outS m c (fun _ => True))

theorem body_spec (K : Dev nD × Ck → ℕ) (c : Dev nD) (Q : PUnit → sProp 𝕄) :
    iprop(records m K ∗ startS m c) ⊢ iprop((endS m c -∗ Q ⟨⟩) -∗ wp frame (wpE (defs₀ (F := F)) 𝒱₀ (c : Thread nD τ) none) Set.univ pBody Q) := by
  unfold startS endS pBody
  simp only [Prog.lift, Prog.bind_op, Prog.bind_ret, wp_deviceId, wp_bind]
  iintro ⟨#HR, HO, Hm, ⟨HpT, Hf0T, Hf1T, Hf2T⟩, ⟨HpB, Hf0B, Hf1B, Hf2B⟩, Hs, Hx, Hw, Hout⟩ Hk
  iapply (meet_spec m K c _) $$ [HO Hm Hf0T Hf0B]
  · isplitr; · iexact HR
    isplitl [HO]; · iexact HO
    isplitl [Hm]; · iexact Hm
    isplitl [Hf0T] <;> iassumption
  iintro ⟨HO, Hat, HgT, HgB⟩
  iapply (cast_spec m c _) $$ [Hx Hw Hs]
  · isplitl [Hx]; · iexact Hx
    isplitl [Hw] <;> iassumption
  iintro ⟨Hx, Hw, Hs⟩
  iapply (first_spec m K c _) $$ [HO HpT HgT Hf1T Hf2T HpB HgB Hf1B Hf2B Hs Hout]
  · isplitr; · iexact HR
    isplitl [HO]; · iexact HO
    unfold dir0
    isplitl [HpT HgT Hf1T Hf2T]
    · isplitl [HpT]; · iexact HpT
      isplitl [HgT]; · iexact HgT
      isplitl [Hf1T] <;> iassumption
    isplitl [HpB HgB Hf1B Hf2B]
    · isplitl [HpB]; · iexact HpB
      isplitl [HgB]; · iexact HgB
      isplitl [Hf1B] <;> iassumption
    isplitl [Hs] <;> iassumption
  iintro ⟨HL, Hs⟩
  iapply (loop_spec m K c _ 14 (le_refl _)) $$ [HL]
  · isplitr; · iexact HR
    iexact HL
  iintro HL
  iapply (last_spec m K c _) $$ [HL]
  · isplitr; · iexact HR
    iexact HL
  iintro ⟨HO, HT, HB, Hout⟩
  iapply Hk
  isplitl [HO]; · iexact HO
  isplitl [Hat]; · iexact Hat
  isplitl [HT]; · iexact HT
  isplitl [HB]; · iexact HB
  isplitl [Hs]; · iexact Hs
  isplitl [Hx]; · iexact Hx
  isplitl [Hw]; · iexact Hw
  iexact Hout

end Cert.RingProof

end
-- ==== Proof.Deal.lean ====
/-
# What every device is dealt

The initial elements, the tokens passed around the ring to the device that pays with them, the credit for what a
device will wait for, a landing buffer cut in its slots and joined again, and the cells closed at the end.
-/
module

public import proofs.«01_k».proof.Proof.Body
public import Idealize.ShloMosaic.Lib.Pipeline.Value
public import Idealize.ShloMosaic.Lib.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Separating conjunctions term by term -/

omit [FloatOps F] in
theorem bigSep_bool (Φ : Bool → sProp 𝕄) : bigSep Finset.univ Φ = iprop(Φ true ∗ Φ false) := by
  rw [bigSep_univ_eq_bigSepL [true, false] (by decide) (by decide), bigSepL_cons_cons, bigSepL_singleton]; rfl

omit [FloatOps F] in
theorem bigSep_some {α : Type} [Fintype α] [DecidableEq α] (Φ : Option α → sProp 𝕄) :
    bigSep Finset.univ Φ = iprop(Φ none ∗ bigSep Finset.univ fun a => Φ (some a)) := by
  rw [bigSep_univ_at Φ none]
  congr 1
  rw [show (Finset.univ.erase none : Finset (Option α)) = Finset.univ.map Function.Embedding.some from by
    ext o; cases o <;> simp, bigSep_map]
  rfl

omit [FloatOps F] in
/-- Three consecutive hops have the three slots. -/
theorem bigSep_slots (h : ℕ) (Φ : Fin 3 → sProp 𝕄) : bigSep Finset.univ Φ = iprop(Φ (sl h) ∗ Φ (sl (h + 1)) ∗ Φ (sl (h + 2))) := by
  have hl : Finset.univ = [sl h, sl (h + 1), sl (h + 2)].toFinset ∧ [sl h, sl (h + 1), sl (h + 2)].Nodup := by
    have h3 : h % 3 = 0 ∨ h % 3 = 1 ∨ h % 3 = 2 := by omega
    rcases h3 with h3 | h3 | h3
    · rw [show sl h = 0 from Fin.ext h3, show sl (h + 1) = 1 from Fin.ext (by show (h + 1) % 3 = 1; omega),
        show sl (h + 2) = 2 from Fin.ext (by show (h + 2) % 3 = 2; omega)]; decide
    · rw [show sl h = 1 from Fin.ext h3, show sl (h + 1) = 2 from Fin.ext (by show (h + 1) % 3 = 2; omega),
        show sl (h + 2) = 0 from Fin.ext (by show (h + 2) % 3 = 0; omega)]; decide
    · rw [show sl h = 2 from Fin.ext h3, show sl (h + 1) = 0 from Fin.ext (by show (h + 1) % 3 = 0; omega),
        show sl (h + 2) = 1 from Fin.ext (by show (h + 2) % 3 = 1; omega)]; decide
  rw [bigSep_univ_eq_bigSepL _ hl.1 hl.2, bigSepL_cons_cons, bigSepL_cons_cons, bigSepL_singleton]; rfl

/-- One thing per transfer semaphore of a direction, from hop `h` on. -/
def six (Φ : Bool → Bool → Fin 3 → sProp 𝕄) (D : Bool) (h : ℕ) : sProp 𝕄 :=
  iprop((Φ D false (sl h) ∗ Φ D false (sl (h + 1)) ∗ Φ D false (sl (h + 2))) ∗ (Φ D true (sl h) ∗ Φ D true (sl (h + 1)) ∗ Φ D true (sl (h + 2))))

omit [FloatOps F] in
theorem bigSep_six (h h' : ℕ) (Φ : Bool → Bool → Fin 3 → sProp 𝕄) :
    bigSep Finset.univ (fun x : Bool × Bool × Fin 3 => Φ x.1 x.2.1 x.2.2) = iprop(six Φ true h ∗ six Φ false h') := by
  have key (D : Bool) (h : ℕ) : bigSep Finset.univ (fun x : Bool × Fin 3 => Φ D x.1 x.2) = six Φ D h := by
    rw [bigSep_univ_prod, bigSep_bool, bigSep_slots h, bigSep_slots h]
    unfold six
    refine Entails.antisymm (show _ ⊢ (_ : sProp 𝕄) from ?_) (show _ ⊢ (_ : sProp 𝕄) from ?_) <;>
    · iintro ⟨H1, H2⟩
      isplitl [H2] <;> iassumption
  rw [bigSep_univ_prod, bigSep_bool, key true h, key false h']

omit [FloatOps F] in
theorem bigSep_fin (n : ℕ) (Φ : ℕ → sProp 𝕄) : bigSep Finset.univ (fun j : Fin n => Φ j.val) = bigSep (Finset.Ico 0 n) Φ := by
  have hs : (Finset.univ : Finset (Fin n)).map Fin.valEmbedding = Finset.Ico 0 n := by
    rw [Fin.map_valEmbedding_univ]; ext j; simp
  rw [← hs, bigSep_map]; rfl

/-! ## The slots of a landing buffer -/

/-- A landing buffer, at contents that do not matter. -/
def freeR (D : Bool) (c : Dev nD) : sProp 𝕄 :=
  iprop(∃ f : Buf (Elt F) ((rM D).view.loc (c : Thread nD τ)), (rM D).view.loc (c : Thread nD τ) ↦{fullShare} f)

omit [FloatOps F] in
theorem rM_set (D : Bool) : (rM D).view.set = Finset.univ := by cases D <;> exact View.set_whole _

/-- The elements of a slot. -/
def slotS (D : Bool) (k : Fin 3) : Finset (rM D).view.ty.Idx := (slotM D k).view.set

omit [FloatOps F] in
theorem slot_disjoint (D : Bool) (b b' : Fin 3) (h : b ≠ b') : Disjoint (slotS D b) (slotS D b') := by
  unfold slotS; rw [slot_set, slot_set]
  exact (Finset.disjoint_map _).mpr (Ring.lead_disjoint (s := S3x128x4096) (NB := 3) 0 1 (fun k : Fin 3 => ![k.val, 0, 0]) S1x128x4096.size inbS
    (fun k => (Nat.one_mul k.val).symm) rfl b b' h)

omit [FloatOps F] in
theorem slot_cover (D : Bool) : Finset.univ.biUnion (slotS D) = Finset.univ := by
  have hc := Ring.lead_cover (s := S3x128x4096) (NB := 3) 0 1 (fun k : Fin 3 => ![k.val, 0, 0]) S1x128x4096.size inbS
    (fun k => (Nat.one_mul k.val).symm) (fun k a ha => by fin_cases a <;> first | exact absurd rfl ha | rfl) rfl
    (fun a ha => by fin_cases a <;> first | exact absurd rfl ha | rfl) rfl
  refine Finset.eq_univ_of_forall fun i => ?_
  have hi : i ∈ (rM D).view.set := by rw [rM_set]; exact Finset.mem_univ i
  obtain ⟨x, -, rfl⟩ := Finset.mem_map.mp hi
  obtain ⟨k, -, hk⟩ := Finset.mem_biUnion.mp (by rw [hc]; exact Finset.mem_univ x : x ∈ _)
  exact Finset.mem_biUnion.mpr ⟨k, Finset.mem_univ k, by unfold slotS; rw [slot_set]; exact Finset.mem_map.mpr ⟨x, hk, rfl⟩⟩

omit [FloatOps F] in
theorem slots_split (D : Bool) (h : ℕ) (c : Dev nD) :
    freeR (F := F) D c ⊢ iprop(freeM c (slotM D (sl h)) ∗ freeM c (slotM D (sl (h + 1))) ∗ freeM c (slotM D (sl (h + 2)))) := by
  unfold freeR
  iintro ⟨%f, H⟩
  ihave H := (Entails.of_eq ((Ring.pointsTo_blocks (slotS D) (slot_disjoint D) (slot_cover D) f).trans (bigSep_slots h _))) $$ H
  icases H with ⟨H0, H1, H2⟩
  isplitl [H0]; · unfold freeM; iexists f; iexact H0
  isplitl [H1]; · unfold freeM; iexists f; iexact H1
  unfold freeM; iexists f; iexact H2

omit [FloatOps F] in
theorem freeM_slot (D : Bool) (k : Fin 3) (c : Dev nD) :
    freeM (F := F) c (slotM D k) = iprop(∃ f : Buf (Elt F) ((rM D).view.loc (c : Thread nD τ)), (rM D).view.loc (c : Thread nD τ) ↦[slotS D k]{fullShare} f) := rfl

omit [FloatOps F] in
theorem slots_join (m : (ℓ : Loc nD τ sig) → Buf (Elt F) ℓ) (D : Bool) (h : ℕ) (c : Dev nD) :
    iprop(freeM (F := F) c (slotM D (sl h)) ∗ freeM c (slotM D (sl (h + 1))) ∗ freeM c (slotM D (sl (h + 2)))) ⊢ freeR D c := by
  refine (Entails.of_eq (bigSep_slots h fun k => freeM c (slotM D k)).symm).trans ?_
  rw [bigSep_congr fun k _ => freeM_slot D k c]
  unfold freeR
  exact Ring.pointsTo_blocks_join_exists (ℓ := (rM D).view.loc (c : Thread nD τ)) (slotS D) (slot_disjoint D) (slot_cover D) (m ((rM D).view.loc (c : Thread nD τ)))

/-! ## Closing the cells -/

theorem close_pos (K : Dev nD × Ck → ℕ) (D s : Bool) (h : ℕ) (hh : HN D ≤ h) (c : Dev nD) :
    iprop(records m K ∗ pos D s h c) ⊢ |={Set.univ}=> semVal (hcell D s h c) 0 := by
  unfold pos
  iintro ⟨#HR, Hat, -⟩
  iapply (Rounds.cell_close ER (ringRd m) (Set.mem_univ (K (c, some (D, s, sl h)))) (fun h => h) (R := h / 3) (duties_done m c D s h hh))
  isplitr; · iapply (inv_hop m K D s h c); iexact HR
  iexact Hat

theorem close_bar (K : Dev nD × Ck → ℕ) (c : Dev nD) :
    iprop(records m K ∗ atPos ER (barCell c) 1 ∅ 0) ⊢ |={Set.univ}=> semVal (barCell c) 0 := by
  iintro ⟨#HR, Hat⟩
  iapply (Rounds.cell_close ER (ringRd m) (Set.mem_univ (K (c, none))) (fun h => h) (R := 1) (duties_bar_later m c))
  isplitr; · iapply (inv_bar m K c); iexact HR
  iexact Hat

/-- The counters of a direction's semaphores, at zero. -/
def zeros (c : Dev nD) (D s : Bool) (k : Fin 3) : sProp 𝕄 := semVal ((c : Thread nD τ), SemLoc.dma (qsem D s k)) 0

theorem close_side (K : Dev nD × Ck → ℕ) (D s : Bool) (h : ℕ) (hh : HN D ≤ h) (c : Dev nD) :
    iprop(records m K ∗ posn D s h c) ⊢ |={Set.univ}=> iprop(zeros c D s (sl h) ∗ zeros c D s (sl (h + 1)) ∗ zeros c D s (sl (h + 2))) := by
  unfold posn
  iintro ⟨#HR, H0, H1, H2⟩
  imod (close_pos m K D s h hh c) $$ [H0] with H0
  · isplitr; · iexact HR
    iexact H0
  imod (close_pos m K D s (h + 1) (Nat.le_succ_of_le hh) c) $$ [H1] with H1
  · isplitr; · iexact HR
    iexact H1
  imod (close_pos m K D s (h + 2) (by omega) c) $$ [H2] with H2
  · isplitr; · iexact HR
    iexact H2
  imodintro
  unfold zeros
  isplitl [H0]; · iexact H0
  isplitl [H1]; · iexact H1
  iexact H2

theorem close_dir (K : Dev nD × Ck → ℕ) (D : Bool) (c : Dev nD) :
    iprop(records m K ∗ hopP D (HN D) c) ⊢ |={Set.univ}=> six (zeros c) D (HN D) := by
  unfold hopP
  iintro ⟨#HR, HS, HV, -⟩
  imod (close_side m K D false (HN D) (le_refl _) c) $$ [HS] with HS
  · isplitr; · iexact HR
    iexact HS
  imod (close_side m K D true (HN D) (le_refl _) c) $$ [HV] with HV
  · isplitr; · iexact HR
    iexact HV
  imodintro
  unfold six
  isplitl [HS]; · iexact HS
  iexact HV

/-! ## The tokens -/

theorem hop_inj (D s D' s' : Bool) (j j' : ℕ) (h : qsem D s (sl j) = qsem D' s' (sl j')) (hr : j / 3 = j' / 3) : D = D' ∧ s = s' ∧ j = j' := by
  have hD := (dirOf_q D s (sl j)).symm.trans ((congrArg dirOf h).trans (dirOf_q D' s' (sl j')))
  have hs := (sideOf_q D s (sl j)).symm.trans ((congrArg sideOf h).trans (sideOf_q D' s' (sl j')))
  have hk := (slotOf_q D s (sl j)).symm.trans ((congrArg (fun q : DmaSem sig => q.val % 3) h).trans (slotOf_q D' s' (sl j')))
  have h1 := hop_eq j
  have h2 := hop_eq j'
  exact ⟨hD, hs, by omega⟩

theorem kcell_injective : Function.Injective (kcell : Dev nD × Ck → GSem nD τ sig) := by
  rintro ⟨c, k⟩ ⟨c', k'⟩ h
  have h1 : c = c' := congrArg (fun g : GSem nD τ sig => g.1.1) h
  have h2 : csem k = csem k' := congrArg Prod.snd h
  subst h1
  refine congrArg _ ?_
  rcases k with _ | ⟨D, s, k⟩ <;> rcases k' with _ | ⟨D', s', k'⟩
  · rfl
  · exact absurd h2 (fun h => by cases h)
  · exact absurd h2 (fun h => by cases h)
  · have h3 : qsem D s k = qsem D' s' k' := by injection h2
    have hD := (dirOf_q D s k).symm.trans ((congrArg dirOf h3).trans (dirOf_q D' s' k'))
    have hs := (sideOf_q D s k).symm.trans ((congrArg sideOf h3).trans (sideOf_q D' s' k'))
    have hk := (slotOf_q D s k).symm.trans ((congrArg (fun q : DmaSem sig => q.val % 3) h3).trans (slotOf_q D' s' k'))
    rw [hD, hs, Fin.ext hk]

def ringCells : Finset (GSem nD τ sig) := Finset.univ.map ⟨kcell, kcell_injective⟩

/-- Which of a device's own duties: one of the barrier's two, or a hop's on one side of a direction. -/
abbrev Tk : Type := Bool ⊕ (Bool × Bool × Fin 16)

def tokOf (ct : Dev nD × Tk) : GSem nD τ sig × ℕ × Bool := match ct.2 with
  | .inl d => (barCell ct.1, 0, d)
  | .inr (D, s, j) => (hcell D s j.val ct.1, j.val / 3, false)

theorem tokOf_injective : Function.Injective tokOf := by
  rintro ⟨c, t⟩ ⟨c', t'⟩ h
  rcases t with d | ⟨D, s, j⟩ <;> rcases t' with d' | ⟨D', s', j'⟩
  · have h1 : c = c' := congrArg (fun x : GSem nD τ sig × ℕ × Bool => x.1.1.1) h
    have h2 : d = d' := congrArg (fun x : GSem nD τ sig × ℕ × Bool => x.2.2) h
    rw [h1, h2]
  · exact absurd (congrArg (fun x : GSem nD τ sig × ℕ × Bool => x.1.2) h) (fun h => by cases h)
  · exact absurd (congrArg (fun x : GSem nD τ sig × ℕ × Bool => x.1.2) h) (fun h => by cases h)
  · have h1 : c = c' := congrArg (fun x : GSem nD τ sig × ℕ × Bool => x.1.1.1) h
    have h2 : (SemLoc.dma (qsem D s (sl j.val)) : SemLoc sig) = .dma (qsem D' s' (sl j'.val)) := congrArg (fun x : GSem nD τ sig × ℕ × Bool => x.1.2) h
    have h3 : j.val / 3 = j'.val / 3 := congrArg (fun x : GSem nD τ sig × ℕ × Bool => x.2.1) h
    have h4 := hop_inj D s D' s' j.val j'.val (by injection h2) h3
    rw [h1, h4.1, h4.2.1, Fin.ext h4.2.2]

def ringToks : Finset (GSem nD τ sig × ℕ × Bool) := Finset.univ.map ⟨tokOf, tokOf_injective⟩

/-- The duties of one side of a direction of device `c`. -/
def sideToks (D s : Bool) (c : Dev nD) : sProp 𝕄 := bigSep Finset.univ fun j : Fin 16 => dutyTok ER (hcell D s j.val c) (j.val / 3) false

/-- The duty tokens of device `c`'s own cells. -/
def toks (c : Dev nD) : sProp 𝕄 :=
  iprop((dutyTok ER (barCell c) 0 true ∗ dutyTok ER (barCell c) 0 false)
    ∗ (sideToks true true c ∗ sideToks true false c) ∗ (sideToks false true c ∗ sideToks false false c))

/-- The tokens device `c` pays with. -/
def payToks (c : Dev nD) : sProp 𝕄 :=
  iprop((dutyTok ER (barCell (dst false c)) 0 true ∗ dutyTok ER (barCell (dst true c)) 0 false)
    ∗ (sideToks true true (dst true c) ∗ sideToks true false c) ∗ (sideToks false true (dst false c) ∗ sideToks false false c))

omit [FloatOps F] in
theorem toks_eq (c : Dev nD) : (bigSep Finset.univ fun t : Tk => (dutyTok ER (tokOf (c, t)).1 (tokOf (c, t)).2.1 (tokOf (c, t)).2.2 : sProp 𝕄)) = toks c := by
  rw [bigSep_univ_sum, bigSep_bool, bigSep_univ_prod, bigSep_bool, bigSep_univ_prod, bigSep_bool, bigSep_univ_prod, bigSep_bool]
  rfl

omit [FloatOps F] in
theorem toks_around : (bigSep Finset.univ fun c : Dev nD => (toks c : sProp 𝕄)) = bigSep Finset.univ fun c : Dev nD => payToks c := by
  unfold toks payToks
  simp only [bigSep_sep']
  rw [bigSep_univ_equiv (turn false) (fun c : Dev nD => (dutyTok ER (barCell c) 0 true : sProp 𝕄)),
    bigSep_univ_equiv (turn true) (fun c : Dev nD => (dutyTok ER (barCell c) 0 false : sProp 𝕄)),
    bigSep_univ_equiv (turn true) (fun c : Dev nD => (sideToks true true c : sProp 𝕄)),
    bigSep_univ_equiv (turn false) (fun c : Dev nD => (sideToks false true c : sProp 𝕄))]
  rfl

/-! ## The credit -/

/-- The credit for one direction's hops. -/
def hopCreds (D : Bool) (c : Dev nD) : sProp 𝕄 := bigSep (Finset.Ico 0 (HN D)) fun j => cred (tallyAt (hcell D true j c) (j + 2) N)

omit [FloatOps F] in
theorem creds_dir (D : Bool) (c : Dev nD) : (Pipeline.launchCred (OD D 0) c : sProp 𝕄) ⊢ hopCreds D c := by
  show (Pipeline.launchCred (fun d => ∑ j ∈ Finset.Ico 0 (HN D), tallyAt (hcell D true j (dst D d)) (j + 2) N) c : sProp 𝕄) ⊢ _
  rw [Pipeline.launchCred_sum (Finset.Ico 0 (HN D)) (fun j d => tallyAt (hcell D true j (dst D d)) (j + 2) N) c]
  exact bigSep_mono fun j _ => Pipeline.launchCred_tallyAt (.dma (qsem D true (sl j))) (dst D) (dst (!D)) (dst_dst' D) (dst_dst D) (j + 2) N c

omit [FloatOps F] in
theorem creds_bar (D : Bool) (c : Dev nD) :
    (Pipeline.launchCred (fun d => tallyAt (barCell (dst D d)) 1 1) c : sProp 𝕄) ⊢ cred (tallyAt (barCell c) 1 1) :=
  Pipeline.launchCred_tallyAt (.reg barS) (dst D) (dst (!D)) (dst_dst' D) (dst_dst D) 1 1 c

omit [FloatOps F] in
theorem creds (c : Dev nD) :
    (Pipeline.launchCred O₀ c : sProp 𝕄) ⊢ iprop(cred (tallyAt (barCell c) 1 2) ∗ hopCreds true c ∗ hopCreds false c) := by
  show (Pipeline.launchCred (fun d => ((OD true 0 d + OD false 0 d) + tallyAt (barCell (dst true d)) 1 1) + tallyAt (barCell (dst false d)) 1 1) c : sProp 𝕄) ⊢ _
  rw [Pipeline.launchCred_add (fun d => (OD true 0 d + OD false 0 d) + tallyAt (barCell (dst true d)) 1 1) (fun d => tallyAt (barCell (dst false d)) 1 1),
    Pipeline.launchCred_add (fun d => OD true 0 d + OD false 0 d) (fun d => tallyAt (barCell (dst true d)) 1 1),
    Pipeline.launchCred_add (OD true 0) (OD false 0)]
  iintro ⟨⟨⟨HT, HB⟩, H1⟩, H2⟩
  ihave H1 := (creds_bar (F := F) true c) $$ H1
  ihave H2 := (creds_bar (F := F) false c) $$ H2
  have h2 : (tallyAt (barCell c) 1 2 : CellTallies nD τ sig ℕ) = tallyAt (barCell c) 1 1 + tallyAt (barCell c) 1 1 := (tallyAt_add _ _ 1 1).symm
  isplitl [H1 H2]
  · rw [h2]
    iapply (cred_add _ _).2
    isplitl [H1] <;> iassumption
  isplitl [HT]; · iapply (creds_dir (F := F) true c); iexact HT
  iapply (creds_dir (F := F) false c); iexact HB

/-! ## A device's own part -/

omit [FloatOps F] in
theorem fewer (D : Bool) (Φ : ℕ → sProp 𝕄) : iprop(bigSep (Finset.Ico 0 16) Φ) ⊢ iprop(bigSep (Finset.Ico 0 (HN D)) Φ) :=
  bigSep_subset (Finset.Ico_subset_Ico (le_refl 0) (HN_le D))

/-- What the hops of a direction need, from the tokens and the credit. -/
theorem hopToks_intro (D : Bool) (c : Dev nD) :
    iprop(sideToks (F := F) D true (dst D c) ∗ sideToks D false c ∗ hopCreds D c) ⊢ hopToks D 0 c := by
  unfold sideToks hopToks hopTok hopCreds
  rw [bigSep_fin 16 fun j => dutyTok ER (hcell D true j (dst D c)) (j / 3) false, bigSep_fin 16 fun j => dutyTok ER (hcell D false j c) (j / 3) false,
    bigSep_sep', bigSep_sep']
  iintro ⟨HV, HS, HC⟩
  isplitl [HS]
  · iapply (fewer D fun j => dutyTok ER (hcell D false j c) (j / 3) false); iexact HS
  isplitl [HV]
  · iapply (fewer D fun j => dutyTok ER (hcell D true j (dst D c)) (j / 3) false); iexact HV
  iexact HC

theorem posn_intro (K : Dev nD × Ck → ℕ) (D s : Bool) (c : Dev nD) :
    iprop(records (F := F) m K ∗ (atPos ER (hcell D s 0 c) 0 ∅ 0 ∗ atPos ER (hcell D s 1 c) 0 ∅ 0 ∗ atPos ER (hcell D s 2 c) 0 ∅ 0)) ⊢ posn D s 0 c := by
  unfold posn pos
  iintro ⟨#HR, H0, H1, H2⟩
  isplitl [H0]
  · isplitl [H0]; · iexact H0
    iapply (reached_hop m K D s 0 (by decide) c); iexact HR
  isplitl [H1]
  · isplitl [H1]; · iexact H1
    iapply (reached_hop m K D s 1 (by decide) c); iexact HR
  isplitl [H2]; · iexact H2
  iapply (reached_hop m K D s 2 (by decide) c); iexact HR

end Cert.RingProof

end
-- ==== Proof.Run.lean ====
/-
# The run

The kernel's call as the pipeline runs it: the body between the staged operands and the staged result, what the
devices are dealt at the start, and what every run leaves in the arrays.
-/
module

public import proofs.«01_k».proof.Proof.Deal
public import Idealize.ShloMosaic.Lib.Pipeline.Value
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The call's data -/

/-- What a device's body starts from. -/
def startD (c : Dev nD) : sProp 𝕄 := iprop((∃ K, records m K ∗ meetTok c ∗ hopP true 0 c ∗ hopP false 0 c))

def scratch (c : Dev nD) : sProp 𝕄 := iprop(freeM c sM ∗ freeR true c ∗ freeR false c)

def Φ₀ (c : Dev nD) : sProp 𝕄 := iprop(startD m c ∗ scratch c)
/-- Every counter of the device's cells at zero again. -/
def Φ₁ (c : Dev nD) : sProp 𝕄 := iprop(scratch c ∗ semVal (barCell c) 0 ∗ six (zeros c) true 16 ∗ six (zeros c) false 15)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m c ∗ (dats m 0 c).owesAt 0 t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt 0 t₀.succ ∗ stg c cc0_stg0_0 (xstg m c) ∗ stg c cc0_stg1_0 (wstg m c) ∗ stg c cc0_stg2_0 (outAt m c))

theorem before_0 (c : Dev nD) (d) : (dats m 0 c).before (0 : Fin 3) t₀ d = xstg m c := by
  unfold Dat.before; rw [if_pos (fetch0_0 t₀)]; rfl
theorem before_1 (c : Dev nD) (d) : (dats m 0 c).before (1 : Fin 3) t₀ d = wstg m c := by
  unfold Dat.before; rw [if_pos (fetch0_1 t₀)]; rfl

/-- A direction's end: its landing buffer whole, its cells closed. -/
theorem dir_end (K : Dev nD × Ck → ℕ) (D : Bool) (c : Dev nD) :
    iprop(records m K ∗ dirE D c) ⊢ |={Set.univ}=> iprop(freeR D c ∗ six (zeros c) D (HN D)) := by
  unfold dirE
  iintro ⟨#HR, Hp, Hf⟩
  imod (close_dir m K D c) $$ [Hp] with Hz
  · isplitr; · iexact HR
    iexact Hp
  imodintro
  isplitl [Hf]; · iapply (slots_join m D 14 c); iexact Hf
  iexact Hz

theorem end_spec (K : Dev nD × Ck → ℕ) (c : Dev nD) : iprop(records m K ∗ endS m c) ⊢ |={Set.univ}=> bodyPost m c := by
  unfold endS
  iintro ⟨#HR, HO, Hat, HT, HB, Hs, Hx, Hw, Hout⟩
  imod (close_bar m K c) $$ [Hat] with HzB
  · isplitr; · iexact HR
    iexact Hat
  imod (dir_end m K true c) $$ [HT] with HT
  · isplitr; · iexact HR
    iexact HT
  imod (dir_end m K false c) $$ [HB] with HB
  · isplitr; · iexact HR
    iexact HB
  icases HT with ⟨HfT, HzT⟩
  icases HB with ⟨HfB, HzF⟩
  imodintro
  unfold bodyPost Φ₁ scratch
  isplitl [Hs HfT HfB HzB HzT HzF]
  · isplitl [Hs HfT HfB]
    · isplitl [Hs]; · iexact Hs
      isplitl [HfT]; · iexact HfT
      iexact HfB
    isplitl [HzB]; · iexact HzB
    isplitl [HzT]; · iexact HzT
    iexact HzF
  isplitl [HO]
  · unfold owesE Dat.owesAt Pipeline.owesWithin
    icases HO with ⟨%W, HO⟩
    iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  unfold outS
  icases Hout with ⟨%f, %hf, Hout⟩
  iexists f; isplitr; · ipureintro; exact funext fun i => hf i trivial
  iexact Hout

theorem start_spec_body (c : Dev nD) : bodyPre m c ⊢ iprop(∃ K, records m K ∗ startS m c) := by
  unfold bodyPre Φ₀ startD scratch
  iintro ⟨⟨⟨%K, #HR, Hm, HpT, HpB⟩, Hs, HfT, HfB⟩, HO, ⟨%d0, %g0, %hg0, Hx⟩, ⟨%d1, %g1, %hg1, Hw⟩, ⟨%d2, %g2, %hg2, Hout⟩⟩
  have hx : g0 = xstg m c := hg0.trans (before_0 m c d0)
  have hw : g1 = wstg m c := hg1.trans (before_1 m c d1)
  subst hx; subst hw
  iexists K
  isplitr; · iexact HR
  unfold startS
  ihave HfT := (slots_split true 0 c) $$ HfT
  ihave HfB := (slots_split false 0 c) $$ HfB
  isplitl [HO]
  · unfold owesE Dat.owesAt Pipeline.owesWithin
    icases HO with ⟨%W, %hW, HO⟩
    iexists W
    iexact HO
  isplitl [Hm]; · iexact Hm
  isplitl [HpT HfT]
  · isplitl [HpT]; · iexact HpT
    iexact HfT
  isplitl [HpB HfB]
  · isplitl [HpB]; · iexact HpB
    iexact HfB
  isplitl [Hs]; · iexact Hs
  isplitl [Hx]; · iexact Hx
  isplitl [Hw]; · iexact Hw
  unfold outS
  iexists g2
  isplitr; · ipureintro; exact fun i hi => hi.elim
  iexact Hout

theorem sound_body (c : Dev nD) :
    bodyPre m c ⊢ wp frame (wpE (defs₀ (F := F)) 𝒱₀ (c : Thread nD τ) none) Set.univ pBody (fun _ => bodyPost m c) := by
  iintro H
  ihave H := (start_spec_body m c) $$ H
  icases H with ⟨%K, #HR, H⟩
  iapply (wp_fupd _ _ _ _ _)
  iapply (body_spec m K c _) $$ [H]
  · isplitr; · iexact HR
    iexact H
  iintro H
  iapply (end_spec m K c)
  isplitr; · iexact HR
  iexact H

set_option maxRecDepth 20000 in
/-- The library's body obligation on core `c`. -/
theorem body_obligation (c : Dev nD) : BodyObligation (dats (F := F) m 0 c) (defs₀ (F := F)) 𝒱₀ 0 Set.univ := fun t => by
  rw [fin_N t]
  rw [bigSep_W, bigSep_W]
  simp only [owns_whole_eq]
  show bodyPre m c ⊢ wp frame (wpE (defs₀ (F := F)) 𝒱₀ c none) Set.univ
    (cc0_body (F := F) xM (Memref.isWhole_whole _) wM (Memref.isWhole_whole _) oM (Memref.isWhole_whole _)
    sM (Memref.isWhole_whole _) (Memref.whole cc0_scratch1) (Memref.isWhole_whole _) (Memref.whole cc0_scratch2) (Memref.isWhole_whole _)
    cc0_scratch3 cc0_scratch4 cc0_scratch5 cc0_scratch6) (fun _ => bodyPost m c)
  rw [body_eq]
  exact sound_body m c

/-! ## The launch -/

def s₀ : MemSt nD τ sig (Elt F) := ⟨m, fun _ => 0, ρ⟩

theorem ownSemFacts : Pipeline.OwnSemFacts cfg0.spec osem := by decide

theorem share_eq (c : Dev nD) (w : Fin cfg0.W) : (dats m 0 c).share w = fullShare := by unfold Dat.share; split <;> rfl

def u₀ : UU :=
  (initOf (Pipeline.cells cfgs cellOf_inj) (Pipeline.launchToks cfgs cellOf_inj), initOf ringCells ringToks)

/-- What the initial element deals device `c`. -/
def G (c : Dev nD) : sProp 𝕄 :=
  iprop((bigSep Finset.univ fun k : Ck => roundState ER (ringRd m) (kcell (c, k)) 0)
    ∗ ((bigSep Finset.univ fun k : Ck => atPos ER (kcell (c, k)) 0 ∅ 0) ∗ (bigSep Finset.univ fun k : Ck => reached ER (kcell (c, k)) 0)) ∗ toks c)

/-- Every cell's invariant, and every cell at round 0. -/
def recs (K : Dev nD × Ck → ℕ) : sProp 𝕄 :=
  iprop((bigSep Finset.univ fun ck : Dev nD × Ck => cellInv ER (ringRd m) (K ck) (kcell ck))
    ∗ (bigSep Finset.univ fun ck : Dev nD × Ck => reached ER (kcell ck) 0))

instance recs_persistent (K : Dev nD × Ck → ℕ) : BI.Persistent (recs (F := F) m K) := by unfold recs; infer_instance

/-- What is device `c`'s alone: its positions and the tokens it pays with. -/
def own (c : Dev nD) : sProp 𝕄 := iprop((bigSep Finset.univ fun k : Ck => atPos ER (kcell (c, k)) 0 ∅ 0) ∗ payToks c)

def G' (c : Dev nD) : sProp 𝕄 := iprop(∃ K, recs m K ∗ own c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero. -/
abbrev ownS (c : Dev nD) : sProp 𝕄 := Pipeline.ownSems0 (Ix := ℕ) (Name := ℕ) (U := UU) (Lvl := ℕ) (Val := Elt F) (τ := τ) osem c

omit [FloatOps F] in
theorem ownSems0_eq (c : Dev nD) : ownS (F := F) c = iprop(six (zeros c) true 16 ∗ six (zeros c) false 15) :=
  bigSep_six 16 15 (zeros c)

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(ownS (F := F) c ∗ unscopedSems0 c) ⊢ (bigSep Finset.univ fun k : Ck => semVal (kcell (c, k)) 0 : sProp 𝕄) := by
  rw [unscopedSems0_eq, bigSep_some]
  iintro ⟨HS, HB⟩
  isplitl [HB]; · iexact HB
  ihave HS := (show ownS (F := F) c ⊢ bigSep Finset.univ ((fun k : Ck => (semVal (kcell (c, k)) 0 : sProp 𝕄)) ∘ some) from Entails.refl _) $$ HS
  iexact HS

theorem core_alloc (c : Dev nD) :
    iprop(ownS c ∗ unscopedSems0 c ∗ G m c)
      ⊢ |={Set.univ}=> iprop((bigSep Finset.univ fun k : Ck => iprop(∃ κ : ℕ, cellInv ER (ringRd m) κ (kcell (c, k))))
          ∗ ((bigSep Finset.univ fun k : Ck => atPos ER (kcell (c, k)) 0 ∅ 0) ∗ (bigSep Finset.univ fun k : Ck => reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (kcell (c, k)) 0) ∗ bigSep Finset.univ fun k : Ck => roundState ER (ringRd m) (kcell (c, k)) 0)
      ⊢ (|={Set.univ}=> bigSep Finset.univ fun k : Ck => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (K : Dev nD × Ck → ℕ) (c : Dev nD) : iprop(recs m K ∗ own c) ⊢ G' m c := by
  unfold G'
  iintro ⟨#HR, H⟩
  iexists K
  isplitr; · iexact HR
  iexact H

set_option maxRecDepth 8000 in
theorem regroup :
    (bigSep Finset.univ fun c : Dev nD => iprop((bigSep Finset.univ fun k : Ck => iprop(∃ κ : ℕ, cellInv ER (ringRd m) κ (kcell (c, k))))
          ∗ ((bigSep Finset.univ fun k : Ck => atPos ER (kcell (c, k)) 0 ∅ 0) ∗ (bigSep Finset.univ fun k : Ck => reached ER (kcell (c, k)) 0)) ∗ toks c) : sProp 𝕄)
      ⊢ bigSep Finset.univ (G' m) := by
  rw [bigSep_sep', bigSep_sep', ← bigSep_univ_prod (fun ck : Dev nD × Ck => iprop(∃ κ : ℕ, cellInv ER (ringRd m) κ (kcell ck))),
    bigSep_sep', ← bigSep_univ_prod (fun ck : Dev nD × Ck => (reached ER (kcell ck) 0 : sProp 𝕄)), toks_around]
  iintro ⟨HI, ⟨Hat, #HR⟩, Htok⟩
  ihave HK := (BI.bigSep_exists_pi Finset.univ (fun (ck : Dev nD × Ck) (κ : ℕ) => (cellInv ER (ringRd m) κ (kcell ck) : sProp 𝕄))) $$ HI
  icases HK with ⟨%K, #HI⟩
  iapply (bigSep_with_persistent (R := recs m K) fun c _ => share_out m K c)
  isplitr
  · unfold recs; isplitl; · iexact HI
    iexact HR
  · unfold own
    rw [bigSep_sep']
    isplitl [Hat]; · iexact Hat
    iexact Htok

set_option maxRecDepth 8000 in
/-- All devices' semaphores at once. -/
theorem glob : (bigSep Finset.univ fun c => iprop(ownS c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem startD_intro (c : Dev nD) :
    iprop(G' m c ∗ levAts L lv ∗ cred (tallyAt (barCell c) 1 2) ∗ hopCreds true c ∗ hopCreds false c) ⊢ startD m c := by
  unfold G' startD own payToks
  iintro ⟨⟨%K, #HR, Hat, ⟨HtT, HtB⟩, ⟨HvT, HsT⟩, HvB, HsB⟩, #Hlev, Hc, HcT, HcB⟩
  ihave #HR := (show iprop(recs m K ∗ levAts L lv) ⊢ records m K from by
    unfold recs records
    iintro ⟨⟨H1, H2⟩, H3⟩
    isplitl [H1]; · iexact H1
    isplitl [H2]; · iexact H2
    iexact H3) $$ []
  · isplitr; · iexact HR
    iexact Hlev
  iexists K
  isplitr; · iexact HR
  ihave Hat := (Entails.of_eq ((bigSep_some fun k : Ck => (atPos ER (kcell (c, k)) 0 ∅ 0 : sProp 𝕄)).trans
    (congrArg (fun X => iprop(atPos ER (barCell c) 0 ∅ 0 ∗ X))
      (bigSep_six 0 0 fun D s k => (atPos ER ((c : Thread nD τ), SemLoc.dma (qsem D s k)) 0 ∅ 0 : sProp 𝕄))))) $$ Hat
  unfold six
  icases Hat with ⟨HaB, ⟨HT0, HT1⟩, HB0, HB1⟩
  isplitl [HtT HtB Hc HaB]
  · unfold meetTok
    isplitl [HtT]; · iexact HtT
    isplitl [HtB]; · iexact HtB
    isplitl [Hc]; · iexact Hc
    iexact HaB
  isplitl [HT0 HT1 HvT HsT HcT]
  · unfold hopP
    isplitl [HT0]
    · iapply (posn_intro m K true false c)
      isplitr; · iexact HR
      iexact HT0
    isplitl [HT1]
    · iapply (posn_intro m K true true c)
      isplitr; · iexact HR
      iexact HT1
    iapply (hopToks_intro true c)
    isplitl [HvT]; · iexact HvT
    isplitl [HsT]; · iexact HsT
    iexact HcT
  unfold hopP
  isplitl [HB0]
  · iapply (posn_intro m K false false c)
    isplitr; · iexact HR
    iexact HB0
  isplitl [HB1]
  · iapply (posn_intro m K false true c)
    isplitr; · iexact HR
    iexact HB1
  iapply (hopToks_intro false c)
  isplitl [HvB]; · iexact HvB
  isplitl [HsB]; · iexact HsB
  iexact HcB

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startD m c ∗ emp) := by
  iintro ⟨-, Hlev, Hcr, -, HG⟩
  ihave Hc := (creds (F := F) c) $$ Hcr
  imodintro
  isplitl
  · iapply (startD_intro m c)
    isplitl [HG]; · iexact HG
    isplitl [Hlev]; · iexact Hlev
    iexact Hc
  · iempintro

omit [FloatOps F] in
/-- The call's scratch is the cast buffer and the two landing buffers. -/
theorem scratch_eq (c : Dev nD) : (Pipeline.scopedRest cfg0.spec c : sProp 𝕄) = scratch c := by
  unfold scratch
  rw [freeM_stage]
  exact scopedRest0_eq c

theorem phi0_intro (c : Dev nD) :
    iprop(startD m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ ownS c ∗ Pipeline.scopedRest cfg0.spec c) := by
  rw [show (dats m 0 c).Φ (Fin.last cfg0.N) = Φ₁ c from rfl, scratch_eq, ownSems0_eq, unscopedSems0_eq]
  unfold Φ₁
  iintro ⟨Hr, HzB, Hz⟩
  isplitl [HzB]; · iexact HzB
  isplitl [Hz]; · iexact Hz
  iexact Hr

theorem above_O₀ (c : Dev nD) : Above 0 (O₀ c) :=
  (((above_OD true 0 0 c (by decide)).add (above_OD false 0 0 c (by decide))).add (Above.tally _ _ _ _ (by decide) (by decide))).add
    (Above.tally _ _ _ _ (by decide) (by decide))

set_option maxRecDepth 20000 in
theorem waits (c : Dev nD) : (levAts L lv : sProp 𝕄) ⊢ Pipeline.cellsWaits cfgs (dats m) 0 0 c :=
  Pipeline.cellsWaits_intro cfgs (dats m) 0 0 c fun w s t =>
    mayWait c _ 0 (by decide) _ (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with zero counters every run ends, with each device's arrays at the computed contents and every
    counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := startD m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem finalA_in (c : Dev nD) (w : Fin cfg0.W) (hw : (cfg0.win w).isOut = false) : finalA m c w = m ((cfg0.win w).arr.view.loc (c : Thread nD τ)) :=
  (dats (F := F) m 0 c).arrAt_in w hw _

end Cert.RingProof

end
-- ==== Proof.Value.lean ====
/-
  What the kernel computes is the reference's: the result's window is the whole array, so the array ends holding what the
  bodies left in the staging buffer, and row block by row block that is the matrix product of the whole arrays, put
  through `y ↦ y / (1 + exp (-y))`. The kernel's logistic is `1 / (1 + exp (-y))`, whose divisor is never zero.
-/
module

public import proofs.«01_k».proof.Proof.Run
public import Idealize.ShloMosaic.Lib.Pipeline.Value
public import Idealize.ShloMosaic.Lib.KernelVsHost
public import Idealize.ShloMosaic.Lib.StackMember
public import Idealize.ShloMosaic.Lib.IdealHost
public import proofs.«01_k».proof.Proof.Gen.ReferenceIdeal

@[expose] public section

noncomputable section

namespace Cert.RingProof

open Cert.KernelIdeal Cert.KernelIdeal.Gen
open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The arrays after the run -/

/-- The windows' one block is the whole array. -/
theorem read_x (f : main_arg0.ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f
theorem read_w (f : main_arg1.ty.Contents (Elt F)) : (win0_1.blk (0 : Fin 1)).view.read (Elt F) f = f :=
  Memref.read_access_unit_zero (Elt F) main_arg1 (off := fun a => (win0_1.index (0 : Fin 1)) a * main_arg1.ty.shape.size a)
    (funext fun a => by fin_cases a <;> decide) (fun a => by fin_cases a <;> decide) f
theorem read_o (f : main_v1.ty.Contents (Elt F)) : (win0_2.blk (0 : Fin 1)).view.read (Elt F) f = f :=
  Memref.read_access_unit_zero (Elt F) main_v1 (off := fun a => (win0_2.index (0 : Fin 1)) a * main_v1.ty.shape.size a)
    (funext fun a => by fin_cases a <;> decide) (fun a => by fin_cases a <;> decide) f

theorem finalA_o (c : Dev nD) : finalA m c (2 : Fin 3) = outAt m c := by
  refine (read_o (F := F) _).symm.trans ?_
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from flush0_2 _, if_pos rfl]
  exact View.read_write_univ _ _

/-! ## One element, over the extended reals -/

theorem one_add_exp_ne_zero (y : EReal) : 1 + Ideal.exp y ≠ 0 := by
  have h0 : (0 : EReal) ≤ Ideal.exp y := by
    induction y with
    | bot => exact le_refl _
    | top => exact le_top
    | coe r => exact EReal.coe_nonneg.mpr (Real.exp_pos r).le
  have h1 : (1 : EReal) ≤ 1 + Ideal.exp y := le_add_of_nonneg_right h0
  intro e; rw [e] at h1; exact absurd h1 (by simp)

/-- The product with the logistic is the quotient. -/
theorem mul_logistic (y : EReal) : y * Ideal.logistic y = Ideal.div y (1 + Ideal.exp (-y)) := by
  unfold Ideal.logistic; exact Ideal.mul_one_div (one_add_exp_ne_zero _)

/-- The activation. -/
def act (y : EReal) : EReal := Ideal.div y (1 + Ideal.exp (-y))

/-- One element of a block's product with the weights, put through the activation. -/
theorem pay4_apply (v : FVec Ideal S4096x64 .bf16) (b : FVec Ideal S128x4096 .bf16) (r : Fin 128) (l : Fin 64) :
    k0_pay4 v b (ix2 r l) = act (∑ k : Fin 4096, b (ix2 r k) * v (ix2 k l)) := by
  have h : matmul dot_S128x4096_S4096x64_S128x64_1_0_0_1_n_n none b v (constant S128x64 .f32 0x00000000#32) (ix2 r l)
      = ∑ k : Fin 4096, b (ix2 r k) * v (ix2 k l) :=
    (congrFun (matmul_zero_eq_dotGeneral _ none b v) (ix2 r l)).trans (StackMember.dotGeneral_plain_apply (m := 128) (n := 64) (k := 4096) none b v r l)
  refine Eq.trans ?_ (mul_logistic _)
  exact congrArg (fun y : EReal => y * Ideal.logistic y) h

/-! ## The reference's value -/

open Cert.ReferenceIdeal in
/-- The reference's result from its two arguments. -/
def refOut (X : FVec Ideal Cert.ReferenceIdeal.S4096x4096 .f32) (W : FVec Ideal Cert.ReferenceIdeal.S4096x2048 .f32) :
    FVec Ideal Cert.ReferenceIdeal.S4096x2048 .f32 :=
  Host.divf (Host.dotGeneral dot_S4096x4096_S4096x2048_S4096x2048_1_0_0_1_n_n none X W)
    (addf (broadcastInDim Cert.ReferenceIdeal.S4096x2048 ![] Cert.ReferenceIdeal.Gen.bcast_S_S4096x2048 (constant Cert.ReferenceIdeal.S_ .f32 0x3F800000#32))
      (Host.exp (Host.negf (Host.dotGeneral dot_S4096x4096_S4096x2048_S4096x2048_1_0_0_1_n_n none X W))))

theorem refOut_apply (X : FVec Ideal Cert.ReferenceIdeal.S4096x4096 .f32) (W : FVec Ideal Cert.ReferenceIdeal.S4096x2048 .f32) (r : Fin 4096) (l : Fin 2048) :
    refOut X W (ix2 r l) = act (∑ k : Fin 4096, X (ix2 r k) * W (ix2 k l)) := by
  have h : Host.dotGeneral Cert.ReferenceIdeal.dot_S4096x4096_S4096x2048_S4096x2048_1_0_0_1_n_n none X W (ix2 r l)
      = ∑ k : Fin 4096, X (ix2 r k) * W (ix2 k l) := StackMember.dotGeneral_plain_apply (m := 4096) (n := 2048) (k := 4096) none X W r l
  show Ideal.div (Host.dotGeneral Cert.ReferenceIdeal.dot_S4096x4096_S4096x2048_S4096x2048_1_0_0_1_n_n none X W (ix2 r l))
    (Ideal.ofBits .f32 0x3F800000#32 + Ideal.exp (-(Host.dotGeneral Cert.ReferenceIdeal.dot_S4096x4096_S4096x2048_S4096x2048_1_0_0_1_n_n none X W (ix2 r l)))) = _
  rw [h, Ideal.ofBits_one_f32]; rfl

/-! ## A device's result is its column block of the reference's -/

theorem blk_apply (m : (ℓ : Loc nD τ sig) → Buf (Elt Ideal) ℓ) (d : Dev nD) (i : S128x4096.Idx) :
    blk m d i = (m ((d : Thread nD τ).loc main_arg0) : FVec Ideal S128x4096 .f32) i := by
  unfold blk xstg k0_pay2
  rw [read_x]
  simp only [shapeCast_self]
  rfl

theorem w16_apply (m : (ℓ : Loc nD τ sig) → Buf (Elt Ideal) ℓ) (d : Dev nD) (i : S4096x64.Idx) :
    w16 m d i = (m ((d : Thread nD τ).loc main_arg1) : FVec Ideal S4096x64 .f32) i := by
  unfold w16 wstg k0_pay3
  rw [read_w]
  simp only [shapeCast_self]
  rfl

/-- Where a device's column block, and a device's row block, lie. -/
theorem col_idx (h : Layout.Tiles S4096x64 Cert.ReferenceIdeal.S4096x2048 1 32) (c : Fin 32) (r : Fin 4096) (l : Fin 64) :
    h.idx c (ix2 r l) = ix2 r ⟨c.val * 64 + l.val, by have := c.isLt; have := l.isLt; omega⟩ := by
  funext a; apply Fin.ext
  match a with
  | ⟨0, _⟩ => rfl
  | ⟨1, _⟩ => rfl
theorem row_idx (h : Layout.Tiles S128x4096 Cert.ReferenceIdeal.S4096x4096 0 32) (c : Fin 32) (r : Fin 128) (l : Fin 4096) :
    h.idx c (ix2 r l) = ix2 ⟨c.val * 128 + r.val, by have := c.isLt; have := r.isLt; omega⟩ l := by
  funext a; apply Fin.ext
  match a with
  | ⟨0, _⟩ => rfl
  | ⟨1, _⟩ => rfl

theorem outAt_eq (m : (ℓ : Loc nD τ sig) → Buf (Elt Ideal) ℓ) (X : FVec Ideal Cert.ReferenceIdeal.S4096x4096 .f32)
    (W : FVec Ideal Cert.ReferenceIdeal.S4096x2048 .f32)
    (hX : ∀ d : Dev nD, (m ((d : Thread nD τ).loc main_arg0) : FVec Ideal S128x4096 .f32) = Layout.block S128x4096 Cert.ReferenceIdeal.S4096x4096 0 32 d X)
    (hW : ∀ d : Dev nD, (m ((d : Thread nD τ).loc main_arg1) : FVec Ideal S4096x64 .f32) = Layout.block S4096x64 Cert.ReferenceIdeal.S4096x2048 1 32 d W)
    (c : Dev nD) : (outAt m c : FVec Ideal S4096x64 .f32) = Layout.block S4096x64 Cert.ReferenceIdeal.S4096x2048 1 32 c (refOut X W) := by
  funext i
  obtain ⟨r, l, rfl⟩ : ∃ (r : Fin 4096) (l : Fin 64), i = ix2 r l := ⟨i 0, i 1, eq_ix2 i⟩
  have hin : inBlk (ix2 r l) = ix2 (⟨r.val % 128, Nat.mod_lt _ (by decide)⟩ : Fin 128) l := by
    funext a; apply Fin.ext
    match a with
    | ⟨0, _⟩ => rfl
    | ⟨1, _⟩ => rfl
  rw [Layout.block_apply, col_idx, refOut_apply]
  show k0_pay4 (w16 m c) (blk m (blkOf (ix2 r l))) (inBlk (ix2 r l)) = _
  rw [hin, pay4_apply]
  refine congrArg act (Finset.sum_congr rfl fun k _ => ?_)
  rw [blk_apply, w16_apply, hX, hW, Layout.block_apply, Layout.block_apply, col_idx, row_idx]
  have hr : (⟨(blkOf (ix2 r l)).val * 128 + r.val % 128, by
      have h₁ : (blkOf (ix2 r l)).val < 32 := (blkOf (ix2 r l)).isLt; have h₂ := Nat.mod_lt r.val (show 0 < 128 by decide); omega⟩ : Fin 4096) = r := by
    apply Fin.ext
    show r.val / 128 * 128 + r.val % 128 = r.val
    omega
  exact congrArg (fun q : Fin 4096 => X (ix2 q k) * W (ix2 k _)) hr

end Cert.RingProof

end
-- ==== Proof.lean ====
/- The certificate's claims. The kernel's run (Run.lean) is proved once for any float values; both frames read it at the
   arguments, and the value claim reads it at the result, which is the device's column block of the reference's result
   (Value.lean). The reference's own run is the generated one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.RingProof

/-- The kernel's run, read at the two operands and the counters. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_in m c (0 : Fin 3) rfl), (h.1 c (1 : Fin 3)).trans (finalA_in m c (1 : Fin 3) rfl)⟩, h.2⟩)
    (run_main m ρ)

/-- The program as printed is the same text: the same body at the call's one label, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (_, _) => rfl
  | ⟨_ + 1, h⟩, _ => exact absurd h (Nat.not_lt.2 (Nat.le_add_left _ _))

/-- the same table. -/
theorem defs_eq {F : FTy → Type} [FloatOps F] : Cert.Kernel.defs (F := F) = Cert.KernelIdeal.defs (F := F) :=
  congrArg (Pipeline.defs Cert.KernelIdeal.pcfgs) bodies_eq

theorem frame_kernel : Cert.quiescent_Kernel := by
  intro m ρ _
  rw [defs_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Each device's result is its column block of the reference's. -/
theorem value : Cert.algebraic_KernelIdeal_ReferenceIdeal := fun m ρ m' ρ' _ hagree =>
  ⟨refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨((h.1 c (2 : Fin 3)).trans (finalA_o m c)).trans
          (outAt_eq m _ _ (fun d => (hagree d).1) (fun d => (hagree d).2) c),
        (h.1 c (0 : Fin 3)).trans (finalA_in m c (0 : Fin 3) rfl), (h.1 c (1 : Fin 3)).trans (finalA_in m c (1 : Fin 3) rfl)⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
